-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 1024]⟩ ⟨2, ![8192, 4096]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S8192x1024 : Shape := ⟨2, ![8192, 1024]⟩
abbrev S8192x8192 : Shape := ⟨2, ![8192, 8192]⟩
abbrev S2x128x8192 : Shape := ⟨3, ![2, 128, 8192]⟩
abbrev S256x8192 : Shape := ⟨2, ![256, 8192]⟩
abbrev S256x1024 : Shape := ⟨2, ![256, 1024]⟩
abbrev S12 : Shape := ⟨1, ![12]⟩
abbrev S2 : Shape := ⟨1, ![2]⟩
abbrev S_ : Shape := ⟨0, ![]⟩
abbrev S1 : Shape := ⟨1, ![1]⟩
abbrev S1x128x8192 : Shape := ⟨3, ![1, 128, 8192]⟩
abbrev S128x8192 : Shape := ⟨2, ![128, 8192]⟩
abbrev S1024x8192 : Shape := ⟨2, ![1024, 8192]⟩

abbrev nBuf : Space → Nat
  | .hbm => 4
  | .vmem => 5
  | .smem => 0
  | _ => 0

abbrev bufTy : (tb : Table) → Fin (tcTables nBuf tb) → BufTy
  | .hbm, ⟨0, _⟩ => ⟨S2048x8192, .f32⟩
  | .hbm, ⟨1, _⟩ => ⟨S8192x1024, .bf16⟩
  | .hbm, ⟨2, _⟩ => ⟨S8192x1024, .f32⟩
  | .hbm, ⟨3, _⟩ => ⟨S8192x8192, .bf16⟩
  | .local _ .vmem, ⟨0, _⟩ => ⟨S8192x1024, .bf16⟩
  | .local _ .vmem, ⟨1, _⟩ => ⟨S2x128x8192, .f32⟩
  | .local _ .vmem, ⟨2, _⟩ => ⟨S2x128x8192, .bf16⟩
  | .local _ .vmem, ⟨3, _⟩ => ⟨S256x8192, .bf16⟩
  | .local _ .vmem, ⟨4, _⟩ => ⟨S256x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_10 : BitVec 32 := 1#32
  let v15 : BitVec 32 := Scalar.muli v5 c1_i32_10
  let v16 : BitVec 32 := Scalar.addi c0_i32 v15
  v16.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_12 : BitVec 32 := 1#32
  let v17 : BitVec 32 := Scalar.muli v7 c1_i32_12
  let v18 : BitVec 32 := Scalar.addi c0_i32_13 v17
  v18.toNat
@[reducible] def k0_t1_loop : Scf.Loop 32 :=
  let c0_i32_45 : BitVec 32 := 0#32
  let c4_i32_46 : BitVec 32 := 4#32
  let v52 : BitVec 32 := Scalar.addi c0_i32_45 c4_i32_46
  let c1_i32_47 : BitVec 32 := 1#32
  ⟨c0_i32_45, v52, c1_i32_47⟩
def k0_off1 (k0_t1 : Fin k0_t1_loop.trips) : Fin 2 → Nat :=
  let c0_i32_198 : BitVec 32 := 0#32
  let c2_i32_197 : BitVec 32 := 2#32
  let c0_i32_45 : BitVec 32 := 0#32
  let c1_i32_47 : BitVec 32 := 1#32
  let arg14 : BitVec 32 := Scf.iv c0_i32_45 c1_i32_47 k0_t1
  let v152 : BitVec 32 := Scalar.muli c2_i32_197 arg14
  let c128_i32 : BitVec 32 := 128#32
  let v153 : BitVec 32 := Scalar.muli v152 c128_i32
  let v154 : BitVec 32 := Scalar.addi c0_i32_198 v153
  let c0_i32_203 : BitVec 32 := 0#32
  ![v154.toNat, 0]
def k0_off2 (k0_t1 : Fin k0_t1_loop.trips) : Fin 2 → Nat :=
  let c0_i32_206 : BitVec 32 := 0#32
  let c2_i32_197 : BitVec 32 := 2#32
  let c0_i32_45 : BitVec 32 := 0#32
  let c1_i32_47 : BitVec 32 := 1#32
  let arg14 : BitVec 32 := Scf.iv c0_i32_45 c1_i32_47 k0_t1
  let v152 : BitVec 32 := Scalar.muli c2_i32_197 arg14
  let c1_i32_204 : BitVec 32 := 1#32
  let v160 : BitVec 32 := Scalar.addi v152 c1_i32_204
  let c128_i32_205 : BitVec 32 := 128#32
  let v161 : BitVec 32 := Scalar.muli v160 c128_i32_205
  let v162 : BitVec 32 := Scalar.addi c0_i32_206 v161
  let c0_i32_211 : BitVec 32 := 0#32
  ![v162.toNat, 0]
def k0_cond1 (k0_t1 : Fin k0_t1_loop.trips) : BitVec 1 :=
  let c2_i32_197 : BitVec 32 := 2#32
  let c0_i32_45 : BitVec 32 := 0#32
  let c1_i32_47 : BitVec 32 := 1#32
  let arg14 : BitVec 32 := Scf.iv c0_i32_45 c1_i32_47 k0_t1
  let v152 : BitVec 32 := Scalar.muli c2_i32_197 arg14
  let c2_i32_212 : BitVec 32 := 2#32
  let v168 : BitVec 1 := Scalar.cmpi .sge v152 c2_i32_212
  let v169 : BitVec 32 := Scalar.extui v168
  let c0_i32_213 : BitVec 32 := 0#32
  let v170 : BitVec 1 := Scalar.cmpi .ne v169 c0_i32_213
  v170

def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c0_i32_253 : BitVec 32 := 0#32
  let v216 : BitVec 32 := Scalar.addi v10 c0_i32_253
  let c2_i32_197 : BitVec 32 := 2#32
  let c0_i32_45 : BitVec 32 := 0#32
  let c1_i32_47 : BitVec 32 := 1#32
  let arg14 : BitVec 32 := Scf.iv c0_i32_45 c1_i32_47 k0_t1
  let v152 : BitVec 32 := Scalar.muli c2_i32_197 arg14
  let c2_i32_252 : BitVec 32 := 2#32
  let v215 : BitVec 32 := Scalar.subi v152 c2_i32_252
  let c128_i32_254 : BitVec 32 := 128#32
  let v217 : BitVec 32 := Scalar.muli v215 c128_i32_254
  let v218 : BitVec 32 := Scalar.addi v216 v217
  let c0_i32_257 : BitVec 32 := 0#32
  ![v218.toNat, 0]
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c0_i32_219 : BitVec 32 := 0#32
  let v177 : BitVec 32 := Scalar.addi v10 c0_i32_219
  let c2_i32_197 : BitVec 32 := 2#32
  let c0_i32_45 : BitVec 32 := 0#32
  let c1_i32_47 : BitVec 32 := 1#32
  let arg14 : BitVec 32 := Scf.iv c0_i32_45 c1_i32_47 k0_t1
  let v152 : BitVec 32 := Scalar.muli c2_i32_197 arg14
  let c128_i32_220 : BitVec 32 := 128#32
  let v178 : BitVec 32 := Scalar.muli v152 c128_i32_220
  let v179 : BitVec 32 := Scalar.addi v177 v178
  let c0_i32_223 : BitVec 32 := 0#32
  ![v179.toNat, 0]
def k0_cond2 (k0_t1 : Fin k0_t1_loop.trips) : BitVec 1 :=
  let c2_i32_197 : BitVec 32 := 2#32
  let c0_i32_45 : BitVec 32 := 0#32
  let c1_i32_47 : BitVec 32 := 1#32
  let arg14 : BitVec 32 := Scf.iv c0_i32_45 c1_i32_47 k0_t1
  let v152 : BitVec 32 := Scalar.muli c2_i32_197 arg14
  let c2_i32_234 : BitVec 32 := 2#32
  let v193 : BitVec 32 := Scalar.addi v152 c2_i32_234
  let c8_i32_235 : BitVec 32 := 8#32
  let v194 : BitVec 1 := Scalar.cmpi .slt v193 c8_i32_235
  let v195 : BitVec 32 := Scalar.extui v194
  let c0_i32_236 : BitVec 32 := 0#32
  let v196 : BitVec 1 := Scalar.cmpi .ne v195 c0_i32_236
  v196

def k0_off5 (k0_t1 : Fin k0_t1_loop.trips) : Fin 2 → Nat :=
  let c0_i32_254 : BitVec 32 := 0#32
  let c2_i32_197 : BitVec 32 := 2#32
  let c0_i32_45 : BitVec 32 := 0#32
  let c1_i32_47 : BitVec 32 := 1#32
  let arg14 : BitVec 32 := Scf.iv c0_i32_45 c1_i32_47 k0_t1
  let v152 : BitVec 32 := Scalar.muli c2_i32_197 arg14
  let c2_i32_252 : BitVec 32 := 2#32
  let v215 : BitVec 32 := Scalar.addi v152 c2_i32_252
  let c128_i32_253 : BitVec 32 := 128#32
  let v216 : BitVec 32 := Scalar.muli v215 c128_i32_253
  let v217 : BitVec 32 := Scalar.addi c0_i32_254 v216
  let c0_i32_259 : BitVec 32 := 0#32
  ![v217.toNat, 0]
def k0_cond3 (k0_t1 : Fin k0_t1_loop.trips) : BitVec 1 :=
  let c2_i32_197 : BitVec 32 := 2#32
  let c0_i32_45 : BitVec 32 := 0#32
  let c1_i32_47 : BitVec 32 := 1#32
  let arg14 : BitVec 32 := Scf.iv c0_i32_45 c1_i32_47 k0_t1
  let v152 : BitVec 32 := Scalar.muli c2_i32_197 arg14
  let c2_i32_237 : BitVec 32 := 2#32
  let v197 : BitVec 1 := Scalar.cmpi .sge v152 c2_i32_237
  let v198 : BitVec 32 := Scalar.extui v197
  let c0_i32_238 : BitVec 32 := 0#32
  let v199 : BitVec 1 := Scalar.cmpi .ne v198 c0_i32_238
  v199

def k0_off6 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c0_i32_253 : BitVec 32 := 0#32
  let v216 : BitVec 32 := Scalar.addi v10 c0_i32_253
  let c2_i32_197 : BitVec 32 := 2#32
  let c0_i32_45 : BitVec 32 := 0#32
  let c1_i32_47 : BitVec 32 := 1#32
  let arg14 : BitVec 32 := Scf.iv c0_i32_45 c1_i32_47 k0_t1
  let v152 : BitVec 32 := Scalar.muli c2_i32_197 arg14
  let c1_i32_252 : BitVec 32 := 1#32
  let v215 : BitVec 32 := Scalar.subi v152 c1_i32_252
  let c128_i32_254 : BitVec 32 := 128#32
  let v217 : BitVec 32 := Scalar.muli v215 c128_i32_254
  let v218 : BitVec 32 := Scalar.addi v216 v217
  let c0_i32_257 : BitVec 32 := 0#32
  ![v218.toNat, 0]
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c0_i32_245 : BitVec 32 := 0#32
  let v207 : BitVec 32 := Scalar.addi v10 c0_i32_245
  let c2_i32_197 : BitVec 32 := 2#32
  let c0_i32_45 : BitVec 32 := 0#32
  let c1_i32_47 : BitVec 32 := 1#32
  let arg14 : BitVec 32 := Scf.iv c0_i32_45 c1_i32_47 k0_t1
  let v152 : BitVec 32 := Scalar.muli c2_i32_197 arg14
  let c1_i32_244 : BitVec 32 := 1#32
  let v206 : BitVec 32 := Scalar.addi v152 c1_i32_244
  let c128_i32_246 : BitVec 32 := 128#32
  let v208 : BitVec 32 := Scalar.muli v206 c128_i32_246
  let v209 : BitVec 32 := Scalar.addi v207 v208
  let c0_i32_249 : BitVec 32 := 0#32
  ![v209.toNat, 0]
def k0_off8 (d0 : Dev nD) (c0_i32_49 : BitVec 32) (c768_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let v53 : BitVec 32 := Scalar.addi v10 c0_i32_49
  let v54 : BitVec 32 := Scalar.addi v53 c768_i32_50
  let c0_i32_53 : BitVec 32 := 0#32
  ![v54.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c0_i32_66 : BitVec 32 := 0#32
  ![v10.toNat, 0]
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_64 : BitVec 32 := 1#32
  let v67 : BitVec 32 := Scalar.muli v7 c1_i32_64
  let v68 : BitVec 32 := Scalar.addi c0_i32_65 v67
  v68.toNat
@[reducible] def k0_t2_loop : Scf.Loop 32 :=
  let c0_i32_74 : BitVec 32 := 0#32
  let c4_i32_75 : BitVec 32 := 4#32
  let v80 : BitVec 32 := Scalar.addi c0_i32_74 c4_i32_75
  let c1_i32_76 : BitVec 32 := 1#32
  ⟨c0_i32_74, v80, c1_i32_76⟩
def k0_off10 (k0_t2 : Fin k0_t2_loop.trips) : Fin 2 → Nat :=
  let c1024_i32_198 : BitVec 32 := 1024#32
  let c2_i32_197 : BitVec 32 := 2#32
  let c0_i32_74 : BitVec 32 := 0#32
  let c1_i32_76 : BitVec 32 := 1#32
  let arg14 : BitVec 32 := Scf.iv c0_i32_74 c1_i32_76 k0_t2
  let v152 : BitVec 32 := Scalar.muli c2_i32_197 arg14
  let c128_i32 : BitVec 32 := 128#32
  let v153 : BitVec 32 := Scalar.muli v152 c128_i32
  let v154 : BitVec 32 := Scalar.addi c1024_i32_198 v153
  let c0_i32_203 : BitVec 32 := 0#32
  ![v154.toNat, 0]
def k0_off11 (k0_t2 : Fin k0_t2_loop.trips) : Fin 2 → Nat :=
  let c1024_i32_206 : BitVec 32 := 1024#32
  let c2_i32_197 : BitVec 32 := 2#32
  let c0_i32_74 : BitVec 32 := 0#32
  let c1_i32_76 : BitVec 32 := 1#32
  let arg14 : BitVec 32 := Scf.iv c0_i32_74 c1_i32_76 k0_t2
  let v152 : BitVec 32 := Scalar.muli c2_i32_197 arg14
  let c1_i32_204 : BitVec 32 := 1#32
  let v160 : BitVec 32 := Scalar.addi v152 c1_i32_204
  let c128_i32_205 : BitVec 32 := 128#32
  let v161 : BitVec 32 := Scalar.muli v160 c128_i32_205
  let v162 : BitVec 32 := Scalar.addi c1024_i32_206 v161
  let c0_i32_211 : BitVec 32 := 0#32
  ![v162.toNat, 0]
def k0_cond4 (k0_t2 : Fin k0_t2_loop.trips) : BitVec 1 :=
  let c2_i32_197 : BitVec 32 := 2#32
  let c0_i32_74 : BitVec 32 := 0#32
  let c1_i32_76 : BitVec 32 := 1#32
  let arg14 : BitVec 32 := Scf.iv c0_i32_74 c1_i32_76 k0_t2
  let v152 : BitVec 32 := Scalar.muli c2_i32_197 arg14
  let c2_i32_212 : BitVec 32 := 2#32
  let v168 : BitVec 1 := Scalar.cmpi .sge v152 c2_i32_212
  let v169 : BitVec 32 := Scalar.extui v168
  let c0_i32_213 : BitVec 32 := 0#32
  let v170 : BitVec 1 := Scalar.cmpi .ne v169 c0_i32_213
  v170

def k0_off12 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c1024_i32_253 : BitVec 32 := 1024#32
  let v216 : BitVec 32 := Scalar.addi v10 c1024_i32_253
  let c2_i32_197 : BitVec 32 := 2#32
  let c0_i32_74 : BitVec 32 := 0#32
  let c1_i32_76 : BitVec 32 := 1#32
  let arg14 : BitVec 32 := Scf.iv c0_i32_74 c1_i32_76 k0_t2
  let v152 : BitVec 32 := Scalar.muli c2_i32_197 arg14
  let c2_i32_252 : BitVec 32 := 2#32
  let v215 : BitVec 32 := Scalar.subi v152 c2_i32_252
  let c128_i32_254 : BitVec 32 := 128#32
  let v217 : BitVec 32 := Scalar.muli v215 c128_i32_254
  let v218 : BitVec 32 := Scalar.addi v216 v217
  let c0_i32_257 : BitVec 32 := 0#32
  ![v218.toNat, 0]
def k0_off13 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c1024_i32_219 : BitVec 32 := 1024#32
  let v177 : BitVec 32 := Scalar.addi v10 c1024_i32_219
  let c2_i32_197 : BitVec 32 := 2#32
  let c0_i32_74 : BitVec 32 := 0#32
  let c1_i32_76 : BitVec 32 := 1#32
  let arg14 : BitVec 32 := Scf.iv c0_i32_74 c1_i32_76 k0_t2
  let v152 : BitVec 32 := Scalar.muli c2_i32_197 arg14
  let c128_i32_220 : BitVec 32 := 128#32
  let v178 : BitVec 32 := Scalar.muli v152 c128_i32_220
  let v179 : BitVec 32 := Scalar.addi v177 v178
  let c0_i32_223 : BitVec 32 := 0#32
  ![v179.toNat, 0]
def k0_cond5 (k0_t2 : Fin k0_t2_loop.trips) : BitVec 1 :=
  let c2_i32_197 : BitVec 32 := 2#32
  let c0_i32_74 : BitVec 32 := 0#32
  let c1_i32_76 : BitVec 32 := 1#32
  let arg14 : BitVec 32 := Scf.iv c0_i32_74 c1_i32_76 k0_t2
  let v152 : BitVec 32 := Scalar.muli c2_i32_197 arg14
  let c2_i32_234 : BitVec 32 := 2#32
  let v193 : BitVec 32 := Scalar.addi v152 c2_i32_234
  let c8_i32_235 : BitVec 32 := 8#32
  let v194 : BitVec 1 := Scalar.cmpi .slt v193 c8_i32_235
  let v195 : BitVec 32 := Scalar.extui v194
  let c0_i32_236 : BitVec 32 := 0#32
  let v196 : BitVec 1 := Scalar.cmpi .ne v195 c0_i32_236
  v196

def k0_off14 (k0_t2 : Fin k0_t2_loop.trips) : Fin 2 → Nat :=
  let c1024_i32_254 : BitVec 32 := 1024#32
  let c2_i32_197 : BitVec 32 := 2#32
  let c0_i32_74 : BitVec 32 := 0#32
  let c1_i32_76 : BitVec 32 := 1#32
  let arg14 : BitVec 32 := Scf.iv c0_i32_74 c1_i32_76 k0_t2
  let v152 : BitVec 32 := Scalar.muli c2_i32_197 arg14
  let c2_i32_252 : BitVec 32 := 2#32
  let v215 : BitVec 32 := Scalar.addi v152 c2_i32_252
  let c128_i32_253 : BitVec 32 := 128#32
  let v216 : BitVec 32 := Scalar.muli v215 c128_i32_253
  let v217 : BitVec 32 := Scalar.addi c1024_i32_254 v216
  let c0_i32_259 : BitVec 32 := 0#32
  ![v217.toNat, 0]
def k0_cond6 (k0_t2 : Fin k0_t2_loop.trips) : BitVec 1 :=
  let c2_i32_197 : BitVec 32 := 2#32
  let c0_i32_74 : BitVec 32 := 0#32
  let c1_i32_76 : BitVec 32 := 1#32
  let arg14 : BitVec 32 := Scf.iv c0_i32_74 c1_i32_76 k0_t2
  let v152 : BitVec 32 := Scalar.muli c2_i32_197 arg14
  let c2_i32_237 : BitVec 32 := 2#32
  let v197 : BitVec 1 := Scalar.cmpi .sge v152 c2_i32_237
  let v198 : BitVec 32 := Scalar.extui v197
  let c0_i32_238 : BitVec 32 := 0#32
  let v199 : BitVec 1 := Scalar.cmpi .ne v198 c0_i32_238
  v199

def k0_off15 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c1024_i32_253 : BitVec 32 := 1024#32
  let v216 : BitVec 32 := Scalar.addi v10 c1024_i32_253
  let c2_i32_197 : BitVec 32 := 2#32
  let c0_i32_74 : BitVec 32 := 0#32
  let c1_i32_76 : BitVec 32 := 1#32
  let arg14 : BitVec 32 := Scf.iv c0_i32_74 c1_i32_76 k0_t2
  let v152 : BitVec 32 := Scalar.muli c2_i32_197 arg14
  let c1_i32_252 : BitVec 32 := 1#32
  let v215 : BitVec 32 := Scalar.subi v152 c1_i32_252
  let c128_i32_254 : BitVec 32 := 128#32
  let v217 : BitVec 32 := Scalar.muli v215 c128_i32_254
  let v218 : BitVec 32 := Scalar.addi v216 v217
  let c0_i32_257 : BitVec 32 := 0#32
  ![v218.toNat, 0]
def k0_off16 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c1024_i32_245 : BitVec 32 := 1024#32
  let v207 : BitVec 32 := Scalar.addi v10 c1024_i32_245
  let c2_i32_197 : BitVec 32 := 2#32
  let c0_i32_74 : BitVec 32 := 0#32
  let c1_i32_76 : BitVec 32 := 1#32
  let arg14 : BitVec 32 := Scf.iv c0_i32_74 c1_i32_76 k0_t2
  let v152 : BitVec 32 := Scalar.muli c2_i32_197 arg14
  let c1_i32_244 : BitVec 32 := 1#32
  let v206 : BitVec 32 := Scalar.addi v152 c1_i32_244
  let c128_i32_246 : BitVec 32 := 128#32
  let v208 : BitVec 32 := Scalar.muli v206 c128_i32_246
  let v209 : BitVec 32 := Scalar.addi v207 v208
  let c0_i32_249 : BitVec 32 := 0#32
  ![v209.toNat, 0]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c1024_i32 : BitVec 32 := 1024#32
  let v19 : BitVec 32 := Scalar.addi v10 c1024_i32
  let c0_i32_96 : BitVec 32 := 0#32
  ![v19.toNat, 0]
def k0_dev4 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_94 : BitVec 32 := 1#32
  let v95 : BitVec 32 := Scalar.muli v5 c1_i32_94
  let v96 : BitVec 32 := Scalar.addi c0_i32_95 v95
  v96.toNat
@[reducible] def k0_t3_loop : Scf.Loop 32 :=
  let c0_i32_134 : BitVec 32 := 0#32
  let c32_i32 : BitVec 32 := 32#32
  let v103 : BitVec 32 := Scalar.addi c0_i32_134 c32_i32
  let c1_i32_135 : BitVec 32 := 1#32
  ⟨c0_i32_134, v103, c1_i32_135⟩
def k0_cond7 (k0_t3 : Fin k0_t3_loop.trips) : BitVec 1 :=
  let c0_i32_134 : BitVec 32 := 0#32
  let c1_i32_135 : BitVec 32 := 1#32
  let arg14 : BitVec 32 := Scf.iv c0_i32_134 c1_i32_135 k0_t3
  let c8_i32_197 : BitVec 32 := 8#32
  let v152 : BitVec 1 := Scalar.cmpi .eq arg14 c8_i32_197
  let v153 : BitVec 32 := Scalar.extui v152
  let c0_i32_198 : BitVec 32 := 0#32
  let v154 : BitVec 1 := Scalar.cmpi .ne v153 c0_i32_198
  v154

def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_6 : BitVec 32 := 2048#32
  let v11 : BitVec 32 := Scalar.muli v5 c2048_i32_6
  let c0_i32_271 : BitVec 32 := 0#32
  ![v11.toNat, 0]
def k0_dev5 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_273 : BitVec 32 := 1#32
  let v318 : BitVec 32 := Scalar.muli v7 c1_i32_273
  let v319 : BitVec 32 := Scalar.addi c0_i32_274 v318
  v319.toNat
def k0_off19 (d0 : Dev nD) (c0_i32_17 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c1024_i32_16 : BitVec 32 := 1024#32
  let v21 : BitVec 32 := Scalar.addi v10 c1024_i32_16
  let v22 : BitVec 32 := Scalar.addi v21 c0_i32_17
  let c0_i32_279 : BitVec 32 := 0#32
  ![v22.toNat, 0]
def k0_dev6 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_277 : BitVec 32 := 1#32
  let v326 : BitVec 32 := Scalar.muli v7 c1_i32_277
  let v327 : BitVec 32 := Scalar.addi c0_i32_278 v326
  v327.toNat
def k0_dev7 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_281 : BitVec 32 := 1#32
  let v334 : BitVec 32 := Scalar.muli v7 c1_i32_281
  let v335 : BitVec 32 := Scalar.addi c0_i32_282 v334
  v335.toNat
def k0_dev8 (d0 : Dev nD) : Nat :=
  let c0_i32_286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_285 : BitVec 32 := 1#32
  let v342 : BitVec 32 := Scalar.muli v7 c1_i32_285
  let v343 : BitVec 32 := Scalar.addi c0_i32_286 v342
  v343.toNat
def k0_dev9 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_289 : BitVec 32 := 1#32
  let v350 : BitVec 32 := Scalar.muli v7 c1_i32_289
  let v351 : BitVec 32 := Scalar.addi c0_i32_290 v350
  v351.toNat
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c2048_i32_7 : BitVec 32 := 2048#32
  let v12 : BitVec 32 := Scalar.muli v7 c2048_i32_7
  let c1024_i32_25 : BitVec 32 := 1024#32
  let v33 : BitVec 32 := Scalar.addi v12 c1024_i32_25
  let c0_i32_295 : BitVec 32 := 0#32
  ![v33.toNat, 0]
def k0_dev10 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_297 : BitVec 32 := 1#32
  let v364 : BitVec 32 := Scalar.muli v5 c1_i32_297
  let v365 : BitVec 32 := Scalar.addi c0_i32_298 v364
  v365.toNat
def k0_off21 (d0 : Dev nD) (c0_i32_21 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let v29 : BitVec 32 := Scalar.addi v10 c0_i32_21
  let c0_i32_303 : BitVec 32 := 0#32
  ![v29.toNat, 0]
def k0_dev11 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_301 : BitVec 32 := 1#32
  let v372 : BitVec 32 := Scalar.muli v5 c1_i32_301
  let v373 : BitVec 32 := Scalar.addi c0_i32_302 v372
  v373.toNat
def k0_dev12 (d0 : Dev nD) : Nat :=
  let c0_i32_306 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_305 : BitVec 32 := 1#32
  let v380 : BitVec 32 := Scalar.muli v5 c1_i32_305
  let v381 : BitVec 32 := Scalar.addi c0_i32_306 v380
  v381.toNat
def k0_dev13 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_309 : BitVec 32 := 1#32
  let v388 : BitVec 32 := Scalar.muli v5 c1_i32_309
  let v389 : BitVec 32 := Scalar.addi c0_i32_310 v388
  v389.toNat
def k0_dev14 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_313 : BitVec 32 := 1#32
  let v396 : BitVec 32 := Scalar.muli v5 c1_i32_313
  let v397 : BitVec 32 := Scalar.addi c0_i32_314 v396
  v397.toNat
def k0_cond8 (k0_t3 : Fin k0_t3_loop.trips) : BitVec 1 :=
  let c0_i32_134 : BitVec 32 := 0#32
  let c1_i32_135 : BitVec 32 := 1#32
  let arg14 : BitVec 32 := Scf.iv c0_i32_134 c1_i32_135 k0_t3
  let c16_i32 : BitVec 32 := 16#32
  let v155 : BitVec 1 := Scalar.cmpi .eq arg14 c16_i32
  let v156 : BitVec 32 := Scalar.extui v155
  let c0_i32_199 : BitVec 32 := 0#32
  let v157 : BitVec 1 := Scalar.cmpi .ne v156 c0_i32_199
  v157

def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c2048_i32_8 : BitVec 32 := 2048#32
  let v13 : BitVec 32 := Scalar.muli v9 c2048_i32_8
  let c0_i32_271 : BitVec 32 := 0#32
  ![v13.toNat, 0]
def k0_cond9 (k0_t3 : Fin k0_t3_loop.trips) : BitVec 1 :=
  let c0_i32_134 : BitVec 32 := 0#32
  let c1_i32_135 : BitVec 32 := 1#32
  let arg14 : BitVec 32 := Scf.iv c0_i32_134 c1_i32_135 k0_t3
  let c20_i32 : BitVec 32 := 20#32
  let v158 : BitVec 1 := Scalar.cmpi .eq arg14 c20_i32
  let v159 : BitVec 32 := Scalar.extui v158
  let c0_i32_200 : BitVec 32 := 0#32
  let v160 : BitVec 1 := Scalar.cmpi .ne v159 c0_i32_200
  v160

def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c2048_i32_8 : BitVec 32 := 2048#32
  let v13 : BitVec 32 := Scalar.muli v9 c2048_i32_8
  let c1024_i32_26 : BitVec 32 := 1024#32
  let v34 : BitVec 32 := Scalar.addi v13 c1024_i32_26
  let c0_i32_271 : BitVec 32 := 0#32
  ![v34.toNat, 0]
def k0_cond10 (k0_t3 : Fin k0_t3_loop.trips) : BitVec 1 :=
  let c0_i32_134 : BitVec 32 := 0#32
  let c1_i32_135 : BitVec 32 := 1#32
  let arg14 : BitVec 32 := Scf.iv c0_i32_134 c1_i32_135 k0_t3
  let c24_i32 : BitVec 32 := 24#32
  let v161 : BitVec 1 := Scalar.cmpi .eq arg14 c24_i32
  let v162 : BitVec 32 := Scalar.extui v161
  let c0_i32_201 : BitVec 32 := 0#32
  let v163 : BitVec 1 := Scalar.cmpi .ne v162 c0_i32_201
  v163

def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_6 : BitVec 32 := 2048#32
  let v11 : BitVec 32 := Scalar.muli v5 c2048_i32_6
  let c1024_i32_27 : BitVec 32 := 1024#32
  let v35 : BitVec 32 := Scalar.addi v11 c1024_i32_27
  let c0_i32_28 : BitVec 32 := 0#32
  let v36 : BitVec 32 := Scalar.addi v35 c0_i32_28
  let c0_i32_271 : BitVec 32 := 0#32
  ![v36.toNat, 0]
def k0_cond11 (k0_t3 : Fin k0_t3_loop.trips) : BitVec 1 :=
  let c0_i32_134 : BitVec 32 := 0#32
  let c1_i32_135 : BitVec 32 := 1#32
  let arg14 : BitVec 32 := Scf.iv c0_i32_134 c1_i32_135 k0_t3
  let c25_i32 : BitVec 32 := 25#32
  let v164 : BitVec 1 := Scalar.cmpi .eq arg14 c25_i32
  let v165 : BitVec 32 := Scalar.extui v164
  let c0_i32_202 : BitVec 32 := 0#32
  let v166 : BitVec 1 := Scalar.cmpi .ne v165 c0_i32_202
  v166

def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c2048_i32_7 : BitVec 32 := 2048#32
  let v12 : BitVec 32 := Scalar.muli v7 c2048_i32_7
  let c0_i32_35 : BitVec 32 := 0#32
  let v43 : BitVec 32 := Scalar.addi v12 c0_i32_35
  let c0_i32_271 : BitVec 32 := 0#32
  ![v43.toNat, 0]
def k0_cond12 (k0_t3 : Fin k0_t3_loop.trips) : BitVec 1 :=
  let c0_i32_134 : BitVec 32 := 0#32
  let c1_i32_135 : BitVec 32 := 1#32
  let arg14 : BitVec 32 := Scf.iv c0_i32_134 c1_i32_135 k0_t3
  let c26_i32 : BitVec 32 := 26#32
  let v167 : BitVec 1 := Scalar.cmpi .eq arg14 c26_i32
  let v168 : BitVec 32 := Scalar.extui v167
  let c0_i32_203 : BitVec 32 := 0#32
  let v169 : BitVec 1 := Scalar.cmpi .ne v168 c0_i32_203
  v169

def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_6 : BitVec 32 := 2048#32
  let v11 : BitVec 32 := Scalar.muli v5 c2048_i32_6
  let c1024_i32_29 : BitVec 32 := 1024#32
  let v37 : BitVec 32 := Scalar.addi v11 c1024_i32_29
  let c256_i32_30 : BitVec 32 := 256#32
  let v38 : BitVec 32 := Scalar.addi v37 c256_i32_30
  let c0_i32_271 : BitVec 32 := 0#32
  ![v38.toNat, 0]
def k0_cond13 (k0_t3 : Fin k0_t3_loop.trips) : BitVec 1 :=
  let c0_i32_134 : BitVec 32 := 0#32
  let c1_i32_135 : BitVec 32 := 1#32
  let arg14 : BitVec 32 := Scf.iv c0_i32_134 c1_i32_135 k0_t3
  let c27_i32 : BitVec 32 := 27#32
  let v170 : BitVec 1 := Scalar.cmpi .eq arg14 c27_i32
  let v171 : BitVec 32 := Scalar.extui v170
  let c0_i32_204 : BitVec 32 := 0#32
  let v172 : BitVec 1 := Scalar.cmpi .ne v171 c0_i32_204
  v172

def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c2048_i32_7 : BitVec 32 := 2048#32
  let v12 : BitVec 32 := Scalar.muli v7 c2048_i32_7
  let c256_i32_36 : BitVec 32 := 256#32
  let v44 : BitVec 32 := Scalar.addi v12 c256_i32_36
  let c0_i32_271 : BitVec 32 := 0#32
  ![v44.toNat, 0]
def k0_cond14 (k0_t3 : Fin k0_t3_loop.trips) : BitVec 1 :=
  let c0_i32_134 : BitVec 32 := 0#32
  let c1_i32_135 : BitVec 32 := 1#32
  let arg14 : BitVec 32 := Scf.iv c0_i32_134 c1_i32_135 k0_t3
  let c28_i32 : BitVec 32 := 28#32
  let v173 : BitVec 1 := Scalar.cmpi .eq arg14 c28_i32
  let v174 : BitVec 32 := Scalar.extui v173
  let c0_i32_205 : BitVec 32 := 0#32
  let v175 : BitVec 1 := Scalar.cmpi .ne v174 c0_i32_205
  v175

def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_6 : BitVec 32 := 2048#32
  let v11 : BitVec 32 := Scalar.muli v5 c2048_i32_6
  let c1024_i32_31 : BitVec 32 := 1024#32
  let v39 : BitVec 32 := Scalar.addi v11 c1024_i32_31
  let c512_i32_32 : BitVec 32 := 512#32
  let v40 : BitVec 32 := Scalar.addi v39 c512_i32_32
  let c0_i32_271 : BitVec 32 := 0#32
  ![v40.toNat, 0]
def k0_cond15 (k0_t3 : Fin k0_t3_loop.trips) : BitVec 1 :=
  let c0_i32_134 : BitVec 32 := 0#32
  let c1_i32_135 : BitVec 32 := 1#32
  let arg14 : BitVec 32 := Scf.iv c0_i32_134 c1_i32_135 k0_t3
  let c29_i32 : BitVec 32 := 29#32
  let v176 : BitVec 1 := Scalar.cmpi .eq arg14 c29_i32
  let v177 : BitVec 32 := Scalar.extui v176
  let c0_i32_206 : BitVec 32 := 0#32
  let v178 : BitVec 1 := Scalar.cmpi .ne v177 c0_i32_206
  v178

def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c2048_i32_7 : BitVec 32 := 2048#32
  let v12 : BitVec 32 := Scalar.muli v7 c2048_i32_7
  let c512_i32_37 : BitVec 32 := 512#32
  let v45 : BitVec 32 := Scalar.addi v12 c512_i32_37
  let c0_i32_271 : BitVec 32 := 0#32
  ![v45.toNat, 0]
def k0_cond16 (k0_t3 : Fin k0_t3_loop.trips) : BitVec 1 :=
  let c0_i32_134 : BitVec 32 := 0#32
  let c1_i32_135 : BitVec 32 := 1#32
  let arg14 : BitVec 32 := Scf.iv c0_i32_134 c1_i32_135 k0_t3
  let c30_i32 : BitVec 32 := 30#32
  let v179 : BitVec 1 := Scalar.cmpi .eq arg14 c30_i32
  let v180 : BitVec 32 := Scalar.extui v179
  let c0_i32_207 : BitVec 32 := 0#32
  let v181 : BitVec 1 := Scalar.cmpi .ne v180 c0_i32_207
  v181

def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_6 : BitVec 32 := 2048#32
  let v11 : BitVec 32 := Scalar.muli v5 c2048_i32_6
  let c1024_i32_33 : BitVec 32 := 1024#32
  let v41 : BitVec 32 := Scalar.addi v11 c1024_i32_33
  let c768_i32_34 : BitVec 32 := 768#32
  let v42 : BitVec 32 := Scalar.addi v41 c768_i32_34
  let c0_i32_271 : BitVec 32 := 0#32
  ![v42.toNat, 0]
def k0_cond17 (k0_t3 : Fin k0_t3_loop.trips) : BitVec 1 :=
  let c0_i32_134 : BitVec 32 := 0#32
  let c1_i32_135 : BitVec 32 := 1#32
  let arg14 : BitVec 32 := Scf.iv c0_i32_134 c1_i32_135 k0_t3
  let c31_i32 : BitVec 32 := 31#32
  let v182 : BitVec 1 := Scalar.cmpi .eq arg14 c31_i32
  let v183 : BitVec 32 := Scalar.extui v182
  let c0_i32_208 : BitVec 32 := 0#32
  let v184 : BitVec 1 := Scalar.cmpi .ne v183 c0_i32_208
  v184

def k0_off31 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c2048_i32_7 : BitVec 32 := 2048#32
  let v12 : BitVec 32 := Scalar.muli v7 c2048_i32_7
  let c768_i32_38 : BitVec 32 := 768#32
  let v46 : BitVec 32 := Scalar.addi v12 c768_i32_38
  let c0_i32_271 : BitVec 32 := 0#32
  ![v46.toNat, 0]
def k0_off32 (d0 : Dev nD) (k0_t3 : Fin k0_t3_loop.trips) : Fin 2 → Nat :=
  let c0_i32_134 : BitVec 32 := 0#32
  let c1_i32_135 : BitVec 32 := 1#32
  let arg14 : BitVec 32 := Scf.iv c0_i32_134 c1_i32_135 k0_t3
  let c8_i32_245 : BitVec 32 := 8#32
  let v271 : BitVec 1 := Scalar.cmpi .slt arg14 c8_i32_245
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c0_i32_210 : BitVec 32 := 0#32
  let v186 : BitVec 1 := Scalar.cmpi .sgt v10 c0_i32_210
  let v187 : BitVec 32 := Scalar.extui v186
  let c0_i32_211 : BitVec 32 := 0#32
  let v188 : BitVec 1 := Scalar.cmpi .slt v10 c0_i32_211
  let v189 : BitVec 32 := Scalar.extui v188
  let v190 : BitVec 32 := Scalar.subi v187 v189
  let c256_i32_209 : BitVec 32 := 256#32
  let c0_i32_212 : BitVec 32 := 0#32
  let v191 : BitVec 1 := Scalar.cmpi .sgt c256_i32_209 c0_i32_212
  let v192 : BitVec 32 := Scalar.extui v191
  let c0_i32_213 : BitVec 32 := 0#32
  let v193 : BitVec 1 := Scalar.cmpi .slt c256_i32_209 c0_i32_213
  let v194 : BitVec 32 := Scalar.extui v193
  let v195 : BitVec 32 := Scalar.subi v192 v194
  let v196 : BitVec 1 := Scalar.cmpi .ne v190 v195
  let v197 : BitVec 32 := Scalar.remsi v10 c256_i32_209
  let c0_i32_214 : BitVec 32 := 0#32
  let v198 : BitVec 1 := Scalar.cmpi .ne v197 c0_i32_214
  let v199 : BitVec 1 := Scalar.andi v196 v198
  let v185 : BitVec 32 := Scalar.divsi v10 c256_i32_209
  let c1_i32_215 : BitVec 32 := 1#32
  let v200 : BitVec 32 := Scalar.subi v185 c1_i32_215
  let v201 : BitVec 32 := Scalar.select v199 v200 v185
  let v272 : BitVec 32 := Scalar.addi v201 arg14
  let c12_i32 : BitVec 32 := 12#32
  let v273 : BitVec 1 := Scalar.cmpi .slt arg14 c12_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_6 : BitVec 32 := 2048#32
  let v11 : BitVec 32 := Scalar.muli v5 c2048_i32_6
  let c0_i32_217 : BitVec 32 := 0#32
  let v203 : BitVec 1 := Scalar.cmpi .sgt v11 c0_i32_217
  let v204 : BitVec 32 := Scalar.extui v203
  let c0_i32_218 : BitVec 32 := 0#32
  let v205 : BitVec 1 := Scalar.cmpi .slt v11 c0_i32_218
  let v206 : BitVec 32 := Scalar.extui v205
  let v207 : BitVec 32 := Scalar.subi v204 v206
  let c256_i32_216 : BitVec 32 := 256#32
  let c0_i32_219 : BitVec 32 := 0#32
  let v208 : BitVec 1 := Scalar.cmpi .sgt c256_i32_216 c0_i32_219
  let v209 : BitVec 32 := Scalar.extui v208
  let c0_i32_220 : BitVec 32 := 0#32
  let v210 : BitVec 1 := Scalar.cmpi .slt c256_i32_216 c0_i32_220
  let v211 : BitVec 32 := Scalar.extui v210
  let v212 : BitVec 32 := Scalar.subi v209 v211
  let v213 : BitVec 1 := Scalar.cmpi .ne v207 v212
  let v214 : BitVec 32 := Scalar.remsi v11 c256_i32_216
  let c0_i32_221 : BitVec 32 := 0#32
  let v215 : BitVec 1 := Scalar.cmpi .ne v214 c0_i32_221
  let v216 : BitVec 1 := Scalar.andi v213 v215
  let v202 : BitVec 32 := Scalar.divsi v11 c256_i32_216
  let c1_i32_222 : BitVec 32 := 1#32
  let v217 : BitVec 32 := Scalar.subi v202 c1_i32_222
  let v218 : BitVec 32 := Scalar.select v216 v217 v202
  let c8_i32_246 : BitVec 32 := 8#32
  let v274 : BitVec 32 := Scalar.subi arg14 c8_i32_246
  let v275 : BitVec 32 := Scalar.addi v218 v274
  let c16_i32_247 : BitVec 32 := 16#32
  let v276 : BitVec 1 := Scalar.cmpi .slt arg14 c16_i32_247
  let c1_i32_3 : BitVec 32 := 1#32
  let v6 : BitVec 32 := Scalar.addi v2 c1_i32_3
  let c4_i32_4 : BitVec 32 := 4#32
  let v7 : BitVec 32 := Scalar.remsi v6 c4_i32_4
  let c2048_i32_7 : BitVec 32 := 2048#32
  let v12 : BitVec 32 := Scalar.muli v7 c2048_i32_7
  let c0_i32_224 : BitVec 32 := 0#32
  let v220 : BitVec 1 := Scalar.cmpi .sgt v12 c0_i32_224
  let v221 : BitVec 32 := Scalar.extui v220
  let c0_i32_225 : BitVec 32 := 0#32
  let v222 : BitVec 1 := Scalar.cmpi .slt v12 c0_i32_225
  let v223 : BitVec 32 := Scalar.extui v222
  let v224 : BitVec 32 := Scalar.subi v221 v223
  let c256_i32_223 : BitVec 32 := 256#32
  let c0_i32_226 : BitVec 32 := 0#32
  let v225 : BitVec 1 := Scalar.cmpi .sgt c256_i32_223 c0_i32_226
  let v226 : BitVec 32 := Scalar.extui v225
  let c0_i32_227 : BitVec 32 := 0#32
  let v227 : BitVec 1 := Scalar.cmpi .slt c256_i32_223 c0_i32_227
  let v228 : BitVec 32 := Scalar.extui v227
  let v229 : BitVec 32 := Scalar.subi v226 v228
  let v230 : BitVec 1 := Scalar.cmpi .ne v224 v229
  let v231 : BitVec 32 := Scalar.remsi v12 c256_i32_223
  let c0_i32_228 : BitVec 32 := 0#32
  let v232 : BitVec 1 := Scalar.cmpi .ne v231 c0_i32_228
  let v233 : BitVec 1 := Scalar.andi v230 v232
  let v219 : BitVec 32 := Scalar.divsi v12 c256_i32_223
  let c1_i32_229 : BitVec 32 := 1#32
  let v234 : BitVec 32 := Scalar.subi v219 c1_i32_229
  let v235 : BitVec 32 := Scalar.select v233 v234 v219
  let c4_i32_248 : BitVec 32 := 4#32
  let v277 : BitVec 32 := Scalar.addi v235 c4_i32_248
  let c12_i32_249 : BitVec 32 := 12#32
  let v278 : BitVec 32 := Scalar.subi arg14 c12_i32_249
  let v279 : BitVec 32 := Scalar.addi v277 v278
  let c20_i32_250 : BitVec 32 := 20#32
  let v280 : BitVec 1 := Scalar.cmpi .slt arg14 c20_i32_250
  let c2_i32 : BitVec 32 := 2#32
  let v8 : BitVec 32 := Scalar.addi v2 c2_i32
  let c4_i32_5 : BitVec 32 := 4#32
  let v9 : BitVec 32 := Scalar.remsi v8 c4_i32_5
  let c2048_i32_8 : BitVec 32 := 2048#32
  let v13 : BitVec 32 := Scalar.muli v9 c2048_i32_8
  let c0_i32_231 : BitVec 32 := 0#32
  let v237 : BitVec 1 := Scalar.cmpi .sgt v13 c0_i32_231
  let v238 : BitVec 32 := Scalar.extui v237
  let c0_i32_232 : BitVec 32 := 0#32
  let v239 : BitVec 1 := Scalar.cmpi .slt v13 c0_i32_232
  let v240 : BitVec 32 := Scalar.extui v239
  let v241 : BitVec 32 := Scalar.subi v238 v240
  let c256_i32_230 : BitVec 32 := 256#32
  let c0_i32_233 : BitVec 32 := 0#32
  let v242 : BitVec 1 := Scalar.cmpi .sgt c256_i32_230 c0_i32_233
  let v243 : BitVec 32 := Scalar.extui v242
  let c0_i32_234 : BitVec 32 := 0#32
  let v244 : BitVec 1 := Scalar.cmpi .slt c256_i32_230 c0_i32_234
  let v245 : BitVec 32 := Scalar.extui v244
  let v246 : BitVec 32 := Scalar.subi v243 v245
  let v247 : BitVec 1 := Scalar.cmpi .ne v241 v246
  let v248 : BitVec 32 := Scalar.remsi v13 c256_i32_230
  let c0_i32_235 : BitVec 32 := 0#32
  let v249 : BitVec 1 := Scalar.cmpi .ne v248 c0_i32_235
  let v250 : BitVec 1 := Scalar.andi v247 v249
  let v236 : BitVec 32 := Scalar.divsi v13 c256_i32_230
  let c1_i32_236 : BitVec 32 := 1#32
  let v251 : BitVec 32 := Scalar.subi v236 c1_i32_236
  let v252 : BitVec 32 := Scalar.select v250 v251 v236
  let c16_i32_251 : BitVec 32 := 16#32
  let v281 : BitVec 32 := Scalar.subi arg14 c16_i32_251
  let v282 : BitVec 32 := Scalar.addi v252 v281
  let c24_i32_252 : BitVec 32 := 24#32
  let v283 : BitVec 1 := Scalar.cmpi .slt arg14 c24_i32_252
  let c4_i32_253 : BitVec 32 := 4#32
  let v284 : BitVec 32 := Scalar.addi v252 c4_i32_253
  let c20_i32_254 : BitVec 32 := 20#32
  let v285 : BitVec 32 := Scalar.subi arg14 c20_i32_254
  let v286 : BitVec 32 := Scalar.addi v284 v285
  let c2_i32_255 : BitVec 32 := 2#32
  let v287 : BitVec 32 := Scalar.remsi arg14 c2_i32_255
  let c0_i32_256 : BitVec 32 := 0#32
  let v288 : BitVec 1 := Scalar.cmpi .eq v287 c0_i32_256
  let c4_i32_257 : BitVec 32 := 4#32
  let v289 : BitVec 32 := Scalar.addi v218 c4_i32_257
  let c24_i32_237 : BitVec 32 := 24#32
  let v253 : BitVec 32 := Scalar.subi arg14 c24_i32_237
  let c0_i32_239 : BitVec 32 := 0#32
  let v255 : BitVec 1 := Scalar.cmpi .sgt v253 c0_i32_239
  let v256 : BitVec 32 := Scalar.extui v255
  let c0_i32_240 : BitVec 32 := 0#32
  let v257 : BitVec 1 := Scalar.cmpi .slt v253 c0_i32_240
  let v258 : BitVec 32 := Scalar.extui v257
  let v259 : BitVec 32 := Scalar.subi v256 v258
  let c2_i32_238 : BitVec 32 := 2#32
  let c0_i32_241 : BitVec 32 := 0#32
  let v260 : BitVec 1 := Scalar.cmpi .sgt c2_i32_238 c0_i32_241
  let v261 : BitVec 32 := Scalar.extui v260
  let c0_i32_242 : BitVec 32 := 0#32
  let v262 : BitVec 1 := Scalar.cmpi .slt c2_i32_238 c0_i32_242
  let v263 : BitVec 32 := Scalar.extui v262
  let v264 : BitVec 32 := Scalar.subi v261 v263
  let v265 : BitVec 1 := Scalar.cmpi .ne v259 v264
  let v266 : BitVec 32 := Scalar.remsi v253 c2_i32_238
  let c0_i32_243 : BitVec 32 := 0#32
  let v267 : BitVec 1 := Scalar.cmpi .ne v266 c0_i32_243
  let v268 : BitVec 1 := Scalar.andi v265 v267
  let v254 : BitVec 32 := Scalar.divsi v253 c2_i32_238
  let c1_i32_244 : BitVec 32 := 1#32
  let v269 : BitVec 32 := Scalar.subi v254 c1_i32_244
  let v270 : BitVec 32 := Scalar.select v268 v269 v254
  let v290 : BitVec 32 := Scalar.addi v289 v270
  let v291 : BitVec 32 := Scalar.addi v235 v270
  let v292 : BitVec 32 := Scalar.select v288 v290 v291
  let v293 : BitVec 32 := Scalar.select v283 v286 v292
  let v294 : BitVec 32 := Scalar.select v280 v282 v293
  let v295 : BitVec 32 := Scalar.select v276 v279 v294
  let v296 : BitVec 32 := Scalar.select v273 v275 v295
  let v297 : BitVec 32 := Scalar.select v271 v272 v296
  let c256_i32_258 : BitVec 32 := 256#32
  let v298 : BitVec 32 := Scalar.muli v297 c256_i32_258
  let c0_i32_259 : BitVec 32 := 0#32
  ![v298.toNat, 0]
def k0_off33 (d0 : Dev nD) (k0_t3 : Fin k0_t3_loop.trips) : Fin 2 → Nat :=
  let c0_i32_134 : BitVec 32 := 0#32
  let c1_i32_135 : BitVec 32 := 1#32
  let arg14 : BitVec 32 := Scf.iv c0_i32_134 c1_i32_135 k0_t3
  let c8_i32_245 : BitVec 32 := 8#32
  let v271 : BitVec 1 := Scalar.cmpi .slt arg14 c8_i32_245
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c0_i32_210 : BitVec 32 := 0#32
  let v186 : BitVec 1 := Scalar.cmpi .sgt v10 c0_i32_210
  let v187 : BitVec 32 := Scalar.extui v186
  let c0_i32_211 : BitVec 32 := 0#32
  let v188 : BitVec 1 := Scalar.cmpi .slt v10 c0_i32_211
  let v189 : BitVec 32 := Scalar.extui v188
  let v190 : BitVec 32 := Scalar.subi v187 v189
  let c256_i32_209 : BitVec 32 := 256#32
  let c0_i32_212 : BitVec 32 := 0#32
  let v191 : BitVec 1 := Scalar.cmpi .sgt c256_i32_209 c0_i32_212
  let v192 : BitVec 32 := Scalar.extui v191
  let c0_i32_213 : BitVec 32 := 0#32
  let v193 : BitVec 1 := Scalar.cmpi .slt c256_i32_209 c0_i32_213
  let v194 : BitVec 32 := Scalar.extui v193
  let v195 : BitVec 32 := Scalar.subi v192 v194
  let v196 : BitVec 1 := Scalar.cmpi .ne v190 v195
  let v197 : BitVec 32 := Scalar.remsi v10 c256_i32_209
  let c0_i32_214 : BitVec 32 := 0#32
  let v198 : BitVec 1 := Scalar.cmpi .ne v197 c0_i32_214
  let v199 : BitVec 1 := Scalar.andi v196 v198
  let v185 : BitVec 32 := Scalar.divsi v10 c256_i32_209
  let c1_i32_215 : BitVec 32 := 1#32
  let v200 : BitVec 32 := Scalar.subi v185 c1_i32_215
  let v201 : BitVec 32 := Scalar.select v199 v200 v185
  let v272 : BitVec 32 := Scalar.addi v201 arg14
  let c12_i32 : BitVec 32 := 12#32
  let v273 : BitVec 1 := Scalar.cmpi .slt arg14 c12_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_6 : BitVec 32 := 2048#32
  let v11 : BitVec 32 := Scalar.muli v5 c2048_i32_6
  let c0_i32_217 : BitVec 32 := 0#32
  let v203 : BitVec 1 := Scalar.cmpi .sgt v11 c0_i32_217
  let v204 : BitVec 32 := Scalar.extui v203
  let c0_i32_218 : BitVec 32 := 0#32
  let v205 : BitVec 1 := Scalar.cmpi .slt v11 c0_i32_218
  let v206 : BitVec 32 := Scalar.extui v205
  let v207 : BitVec 32 := Scalar.subi v204 v206
  let c256_i32_216 : BitVec 32 := 256#32
  let c0_i32_219 : BitVec 32 := 0#32
  let v208 : BitVec 1 := Scalar.cmpi .sgt c256_i32_216 c0_i32_219
  let v209 : BitVec 32 := Scalar.extui v208
  let c0_i32_220 : BitVec 32 := 0#32
  let v210 : BitVec 1 := Scalar.cmpi .slt c256_i32_216 c0_i32_220
  let v211 : BitVec 32 := Scalar.extui v210
  let v212 : BitVec 32 := Scalar.subi v209 v211
  let v213 : BitVec 1 := Scalar.cmpi .ne v207 v212
  let v214 : BitVec 32 := Scalar.remsi v11 c256_i32_216
  let c0_i32_221 : BitVec 32 := 0#32
  let v215 : BitVec 1 := Scalar.cmpi .ne v214 c0_i32_221
  let v216 : BitVec 1 := Scalar.andi v213 v215
  let v202 : BitVec 32 := Scalar.divsi v11 c256_i32_216
  let c1_i32_222 : BitVec 32 := 1#32
  let v217 : BitVec 32 := Scalar.subi v202 c1_i32_222
  let v218 : BitVec 32 := Scalar.select v216 v217 v202
  let c8_i32_246 : BitVec 32 := 8#32
  let v274 : BitVec 32 := Scalar.subi arg14 c8_i32_246
  let v275 : BitVec 32 := Scalar.addi v218 v274
  let c16_i32_247 : BitVec 32 := 16#32
  let v276 : BitVec 1 := Scalar.cmpi .slt arg14 c16_i32_247
  let c1_i32_3 : BitVec 32 := 1#32
  let v6 : BitVec 32 := Scalar.addi v2 c1_i32_3
  let c4_i32_4 : BitVec 32 := 4#32
  let v7 : BitVec 32 := Scalar.remsi v6 c4_i32_4
  let c2048_i32_7 : BitVec 32 := 2048#32
  let v12 : BitVec 32 := Scalar.muli v7 c2048_i32_7
  let c0_i32_224 : BitVec 32 := 0#32
  let v220 : BitVec 1 := Scalar.cmpi .sgt v12 c0_i32_224
  let v221 : BitVec 32 := Scalar.extui v220
  let c0_i32_225 : BitVec 32 := 0#32
  let v222 : BitVec 1 := Scalar.cmpi .slt v12 c0_i32_225
  let v223 : BitVec 32 := Scalar.extui v222
  let v224 : BitVec 32 := Scalar.subi v221 v223
  let c256_i32_223 : BitVec 32 := 256#32
  let c0_i32_226 : BitVec 32 := 0#32
  let v225 : BitVec 1 := Scalar.cmpi .sgt c256_i32_223 c0_i32_226
  let v226 : BitVec 32 := Scalar.extui v225
  let c0_i32_227 : BitVec 32 := 0#32
  let v227 : BitVec 1 := Scalar.cmpi .slt c256_i32_223 c0_i32_227
  let v228 : BitVec 32 := Scalar.extui v227
  let v229 : BitVec 32 := Scalar.subi v226 v228
  let v230 : BitVec 1 := Scalar.cmpi .ne v224 v229
  let v231 : BitVec 32 := Scalar.remsi v12 c256_i32_223
  let c0_i32_228 : BitVec 32 := 0#32
  let v232 : BitVec 1 := Scalar.cmpi .ne v231 c0_i32_228
  let v233 : BitVec 1 := Scalar.andi v230 v232
  let v219 : BitVec 32 := Scalar.divsi v12 c256_i32_223
  let c1_i32_229 : BitVec 32 := 1#32
  let v234 : BitVec 32 := Scalar.subi v219 c1_i32_229
  let v235 : BitVec 32 := Scalar.select v233 v234 v219
  let c4_i32_248 : BitVec 32 := 4#32
  let v277 : BitVec 32 := Scalar.addi v235 c4_i32_248
  let c12_i32_249 : BitVec 32 := 12#32
  let v278 : BitVec 32 := Scalar.subi arg14 c12_i32_249
  let v279 : BitVec 32 := Scalar.addi v277 v278
  let c20_i32_250 : BitVec 32 := 20#32
  let v280 : BitVec 1 := Scalar.cmpi .slt arg14 c20_i32_250
  let c2_i32 : BitVec 32 := 2#32
  let v8 : BitVec 32 := Scalar.addi v2 c2_i32
  let c4_i32_5 : BitVec 32 := 4#32
  let v9 : BitVec 32 := Scalar.remsi v8 c4_i32_5
  let c2048_i32_8 : BitVec 32 := 2048#32
  let v13 : BitVec 32 := Scalar.muli v9 c2048_i32_8
  let c0_i32_231 : BitVec 32 := 0#32
  let v237 : BitVec 1 := Scalar.cmpi .sgt v13 c0_i32_231
  let v238 : BitVec 32 := Scalar.extui v237
  let c0_i32_232 : BitVec 32 := 0#32
  let v239 : BitVec 1 := Scalar.cmpi .slt v13 c0_i32_232
  let v240 : BitVec 32 := Scalar.extui v239
  let v241 : BitVec 32 := Scalar.subi v238 v240
  let c256_i32_230 : BitVec 32 := 256#32
  let c0_i32_233 : BitVec 32 := 0#32
  let v242 : BitVec 1 := Scalar.cmpi .sgt c256_i32_230 c0_i32_233
  let v243 : BitVec 32 := Scalar.extui v242
  let c0_i32_234 : BitVec 32 := 0#32
  let v244 : BitVec 1 := Scalar.cmpi .slt c256_i32_230 c0_i32_234
  let v245 : BitVec 32 := Scalar.extui v244
  let v246 : BitVec 32 := Scalar.subi v243 v245
  let v247 : BitVec 1 := Scalar.cmpi .ne v241 v246
  let v248 : BitVec 32 := Scalar.remsi v13 c256_i32_230
  let c0_i32_235 : BitVec 32 := 0#32
  let v249 : BitVec 1 := Scalar.cmpi .ne v248 c0_i32_235
  let v250 : BitVec 1 := Scalar.andi v247 v249
  let v236 : BitVec 32 := Scalar.divsi v13 c256_i32_230
  let c1_i32_236 : BitVec 32 := 1#32
  let v251 : BitVec 32 := Scalar.subi v236 c1_i32_236
  let v252 : BitVec 32 := Scalar.select v250 v251 v236
  let c16_i32_251 : BitVec 32 := 16#32
  let v281 : BitVec 32 := Scalar.subi arg14 c16_i32_251
  let v282 : BitVec 32 := Scalar.addi v252 v281
  let c24_i32_252 : BitVec 32 := 24#32
  let v283 : BitVec 1 := Scalar.cmpi .slt arg14 c24_i32_252
  let c4_i32_253 : BitVec 32 := 4#32
  let v284 : BitVec 32 := Scalar.addi v252 c4_i32_253
  let c20_i32_254 : BitVec 32 := 20#32
  let v285 : BitVec 32 := Scalar.subi arg14 c20_i32_254
  let v286 : BitVec 32 := Scalar.addi v284 v285
  let c2_i32_255 : BitVec 32 := 2#32
  let v287 : BitVec 32 := Scalar.remsi arg14 c2_i32_255
  let c0_i32_256 : BitVec 32 := 0#32
  let v288 : BitVec 1 := Scalar.cmpi .eq v287 c0_i32_256
  let c4_i32_257 : BitVec 32 := 4#32
  let v289 : BitVec 32 := Scalar.addi v218 c4_i32_257
  let c24_i32_237 : BitVec 32 := 24#32
  let v253 : BitVec 32 := Scalar.subi arg14 c24_i32_237
  let c0_i32_239 : BitVec 32 := 0#32
  let v255 : BitVec 1 := Scalar.cmpi .sgt v253 c0_i32_239
  let v256 : BitVec 32 := Scalar.extui v255
  let c0_i32_240 : BitVec 32 := 0#32
  let v257 : BitVec 1 := Scalar.cmpi .slt v253 c0_i32_240
  let v258 : BitVec 32 := Scalar.extui v257
  let v259 : BitVec 32 := Scalar.subi v256 v258
  let c2_i32_238 : BitVec 32 := 2#32
  let c0_i32_241 : BitVec 32 := 0#32
  let v260 : BitVec 1 := Scalar.cmpi .sgt c2_i32_238 c0_i32_241
  let v261 : BitVec 32 := Scalar.extui v260
  let c0_i32_242 : BitVec 32 := 0#32
  let v262 : BitVec 1 := Scalar.cmpi .slt c2_i32_238 c0_i32_242
  let v263 : BitVec 32 := Scalar.extui v262
  let v264 : BitVec 32 := Scalar.subi v261 v263
  let v265 : BitVec 1 := Scalar.cmpi .ne v259 v264
  let v266 : BitVec 32 := Scalar.remsi v253 c2_i32_238
  let c0_i32_243 : BitVec 32 := 0#32
  let v267 : BitVec 1 := Scalar.cmpi .ne v266 c0_i32_243
  let v268 : BitVec 1 := Scalar.andi v265 v267
  let v254 : BitVec 32 := Scalar.divsi v253 c2_i32_238
  let c1_i32_244 : BitVec 32 := 1#32
  let v269 : BitVec 32 := Scalar.subi v254 c1_i32_244
  let v270 : BitVec 32 := Scalar.select v268 v269 v254
  let v290 : BitVec 32 := Scalar.addi v289 v270
  let v291 : BitVec 32 := Scalar.addi v235 v270
  let v292 : BitVec 32 := Scalar.select v288 v290 v291
  let v293 : BitVec 32 := Scalar.select v283 v286 v292
  let v294 : BitVec 32 := Scalar.select v280 v282 v293
  let v295 : BitVec 32 := Scalar.select v276 v279 v294
  let v296 : BitVec 32 := Scalar.select v273 v275 v295
  let v297 : BitVec 32 := Scalar.select v271 v272 v296
  let c256_i32_258 : BitVec 32 := 256#32
  let v298 : BitVec 32 := Scalar.muli v297 c256_i32_258
  let c0_i32_267 : BitVec 32 := 0#32
  ![v298.toNat, 0]
def k0_off34 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2048_i32_6 : BitVec 32 := 2048#32
  let v11 : BitVec 32 := Scalar.muli v5 c2048_i32_6
  let c0_i32_150 : BitVec 32 := 0#32
  ![v11.toNat, 0]
def k0_off35 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c2048_i32_7 : BitVec 32 := 2048#32
  let v12 : BitVec 32 := Scalar.muli v7 c2048_i32_7
  let c1024_i32_15 : BitVec 32 := 1024#32
  let v20 : BitVec 32 := Scalar.addi v12 c1024_i32_15
  let c0_i32_155 : BitVec 32 := 0#32
  ![v20.toNat, 0]
def k0_off36 (d0 : Dev nD) (c0_i32_17 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let c1024_i32_16 : BitVec 32 := 1024#32
  let v21 : BitVec 32 := Scalar.addi v10 c1024_i32_16
  let v22 : BitVec 32 := Scalar.addi v21 c0_i32_17
  let c0_i32_160 : BitVec 32 := 0#32
  ![v22.toNat, 0]
def k0_off37 (d0 : Dev nD) (c0_i32_21 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v10 : BitVec 32 := Scalar.muli v2 c2048_i32
  let v29 : BitVec 32 := Scalar.addi v10 c0_i32_21
  let c0_i32_180 : BitVec 32 := 0#32
  ![v29.toNat, 0]
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .bf16⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Common.lean ====
/-
# The kernel's run: cells, schedule, contents

Four devices on a ring hold a quarter of the rows of `x` and a quarter of the columns of `w` each. Every device casts
its rows to bf16 into its part of a gathered copy of `x`, passes rows on to its neighbours in twelve transfers, and
multiplies the thirty-two tiles of 256 gathered rows by its columns, in the order in which they become available.

This module names the pieces: the ring, the twelve transfers (`Fin 12`; which rows each carries, to which neighbour, for
how much credit), the semaphore cells that synchronise them under the rounds library, what each cell hands over, what a
device owes, and the contents the buffers hold.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The handshake cells' rounds, duties named by booleans. -/
abbrev UB : Type := URounds (GSem nD τ sig) Bool
/-- The pipeline's cells, the handshake cells, and the counters of the local transfers. -/
abbrev UU : Type := UR sig nD τ × (UB × Counters)

local notation "𝕄" => MT nD τ sig Unit (Elt F) ℕ UU ℕ

/-- The pipeline's component. -/
abbrev EP : Emb (UR sig nD τ) (MT nD τ sig Unit (Elt F) ℕ UU ℕ) := embL
/-- The handshake cells' component. -/
def ER : Emb UB (MT nD τ sig Unit (Elt F) ℕ UU ℕ) :=
  (Emb.inl : Emb UB (UB × Counters)).trans (embR : Emb (UB × Counters) (MT nD τ sig Unit (Elt F) ℕ UU ℕ))
/-- The counters' component. -/
abbrev EC : UEmb Counters (MT nD τ sig Unit (Elt F) ℕ UU ℕ) := countersEmb

instance ER_landsIn : (ER : Emb UB 𝕄).LandsIn (upEmb : UEmb _ 𝕄) := by unfold ER; infer_instance

/-- The cells the launch must not forget when the kernel's own element is split off the counters'. -/
theorem own_split (a : UB) : (BI.own ((embR : Emb (UB × Counters) 𝕄) (a, 1)) : sProp 𝕄) ⊢ BI.own (ER a) := BI.Entails.refl _

abbrev 𝒱₀ : Variants := Variants.none

/-! ## The ring -/

/-- The right neighbour. -/
def nxt (c : Dev nD) : Dev nD := ⟨(c.val + 1) % 4, Nat.mod_lt _ (by decide)⟩
/-- The left neighbour. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
/-- The ring as a permutation of the devices. -/
def ring : Dev nD ≃ Dev nD := ⟨nxt, prv, prv_nxt, nxt_prv⟩

/-! ## The twelve transfers

Transfer 0 passes on the first half of a device's own rows to the right, 1 the second half to the left; 2 and 3 forward
what 0 and 1 brought, on to the right and to the left; 4 to 7 pass the quarters of the own second half to the right, 8
to 11 those of the own first half to the left. -/

/-- Whether transfer `s` goes to the right. -/
abbrev toRight (s : Fin 12) : Bool := ![true, false, true, false, true, true, true, true, false, false, false, false] s
/-- The device transfer `s` of device `c` goes to. -/
def dst (s : Fin 12) (c : Dev nD) : Dev nD := if toRight s then nxt c else prv c
/-- The device whose transfer `s` comes to device `c`. -/
def orig (s : Fin 12) (c : Dev nD) : Dev nD := if toRight s then prv c else nxt c
theorem orig_dst (s : Fin 12) (c : Dev nD) : orig s (dst s c) = c := by revert s c; decide
theorem dst_orig (s : Fin 12) (c : Dev nD) : dst s (orig s c) = c := by revert s c; decide
/-- Transfer `s` as a permutation of the devices. -/
def dstEquiv (s : Fin 12) : Dev nD ≃ Dev nD := ⟨dst s, orig s, orig_dst s, dst_orig s⟩

/-- How many gathered rows transfer `s` carries. -/
abbrev len (s : Fin 12) : ℕ := if s.val < 4 then 1024 else 256
/-- The first of the rows device `c` sends by transfer `s`. -/
def sRow (s : Fin 12) (c : Dev nD) : ℕ :=
  ![2048 * c.val, 2048 * c.val + 1024, 2048 * ((c.val + 3) % 4), 2048 * ((c.val + 1) % 4) + 1024,
    2048 * c.val + 1024, 2048 * c.val + 1280, 2048 * c.val + 1536, 2048 * c.val + 1792,
    2048 * c.val, 2048 * c.val + 256, 2048 * c.val + 512, 2048 * c.val + 768] s
/-- The first of the rows device `c` receives by transfer `s`. -/
def rRow (s : Fin 12) (c : Dev nD) : ℕ :=
  ![2048 * ((c.val + 3) % 4), 2048 * ((c.val + 1) % 4) + 1024, 2048 * ((c.val + 2) % 4), 2048 * ((c.val + 2) % 4) + 1024,
    2048 * ((c.val + 3) % 4) + 1024, 2048 * ((c.val + 3) % 4) + 1280, 2048 * ((c.val + 3) % 4) + 1536, 2048 * ((c.val + 3) % 4) + 1792,
    2048 * ((c.val + 1) % 4), 2048 * ((c.val + 1) % 4) + 256, 2048 * ((c.val + 1) % 4) + 512, 2048 * ((c.val + 1) % 4) + 768] s
theorem rRow_dst (s : Fin 12) (c : Dev nD) : rRow s (dst s c) = sRow s c := by revert s c; decide

/-! ## The buffers -/

/-- The device's rows of `x`. -/
abbrev xM : Memref sig .tc .hbm S2048x8192 .f32 := Memref.whole main_arg0
/-- The device's columns of `w`, staged. -/
abbrev wM : Memref sig .tc .vmem S8192x1024 .bf16 := Memref.whole cc0_stg0_0
/-- The device's columns of the result. -/
abbrev oM : Memref sig .tc .hbm S8192x1024 .f32 := Memref.whole main_v1_0
/-- The gathered copy of `x`. -/
abbrev gM : Memref sig .tc .hbm S8192x8192 .bf16 := Memref.whole main_v1_1
/-- The two tiles of `x` being cast. -/
abbrev aM : Memref sig .tc .vmem S2x128x8192 .f32 := Memref.whole cc0_scratch0
/-- The two cast tiles. -/
abbrev bM : Memref sig .tc .vmem S2x128x8192 .bf16 := Memref.whole cc0_scratch1
/-- The tile of gathered rows being multiplied. -/
abbrev tM : Memref sig .tc .vmem S256x8192 .bf16 := Memref.whole cc0_scratch2
/-- The tile of the result. -/
abbrev yM : Memref sig .tc .vmem S256x1024 .f32 := Memref.whole cc0_scratch3

abbrev xLoc (c : Dev nD) : Loc nD τ sig := (c : Thread nD τ).loc main_arg0
abbrev wLoc (c : Dev nD) : Loc nD τ sig := (c : Thread nD τ).loc cc0_stg0_0
abbrev oLoc (c : Dev nD) : Loc nD τ sig := (c : Thread nD τ).loc main_v1_0
abbrev gLoc (c : Dev nD) : Loc nD τ sig := (c : Thread nD τ).loc main_v1_1
abbrev aLoc (c : Dev nD) : Loc nD τ sig := (c : Thread nD τ).loc cc0_scratch0
abbrev bLoc (c : Dev nD) : Loc nD τ sig := (c : Thread nD τ).loc cc0_scratch1
abbrev tLoc (c : Dev nD) : Loc nD τ sig := (c : Thread nD τ).loc cc0_scratch2
abbrev yLoc (c : Dev nD) : Loc nD τ sig := (c : Thread nD τ).loc cc0_scratch3

/-! ## Rows -/

/-- The elements of `n` rows from row `a` on. -/
def rows (A B a n : ℕ) : Finset ((⟨2, ![A, B]⟩ : Shape).Idx) := Finset.univ.filter fun i => a ≤ (i 0).val ∧ (i 0).val < a + n
theorem mem_rows {A B a n : ℕ} {i : (⟨2, ![A, B]⟩ : Shape).Idx} : i ∈ rows A B a n ↔ a ≤ (i 0).val ∧ (i 0).val < a + n := by
  unfold rows; rw [Finset.mem_filter]; exact ⟨fun h => h.2, fun h => ⟨Finset.mem_univ _, h⟩⟩

/-- The index at row `r` and column `k`. -/
def ix (A B : ℕ) [NeZero A] [NeZero B] (r k : ℕ) : (⟨2, ![A, B]⟩ : Shape).Idx := fun a => match a with
  | ⟨0, _⟩ => Fin.ofNat A r
  | ⟨1, _⟩ => Fin.ofNat B k
theorem ix_zero (A B : ℕ) [NeZero A] [NeZero B] (r k : ℕ) : (ix A B r k 0).val = r % A := rfl
theorem ix_one (A B : ℕ) [NeZero A] [NeZero B] (r k : ℕ) : (ix A B r k 1).val = k % B := rfl
theorem ix_self (A B : ℕ) [NeZero A] [NeZero B] (i : (⟨2, ![A, B]⟩ : Shape).Idx) : ix A B (i 0).val (i 1).val = i := by
  funext a; apply Fin.ext
  match a with
  | ⟨0, _⟩ => exact Nat.mod_eq_of_lt (i 0).isLt
  | ⟨1, _⟩ => exact Nat.mod_eq_of_lt (i 1).isLt

/-! ## Contents -/

variable (m : (ℓ : Loc nD τ sig) → Buf (Elt F) ℓ)

/-- The device that holds row `r` of `x`. -/
def holder (r : ℕ) : Dev nD := ⟨(r / 2048) % 4, Nat.mod_lt _ (by decide)⟩
/-- The gathered copy of `x`: row `r` is its holder's, cast to bf16. -/
def gathered : S8192x8192.Idx → Elt F .bf16 := fun i =>
  FloatOps.truncf .bf16 bitsLt_bf16_f32 (m (xLoc (holder (i 0).val)) (ix 2048 8192 (i 0).val (i 1).val))
/-- Tile `t` of the gathered copy. -/
def gtile (t : ℕ) : S256x8192.Idx → Elt F .bf16 := fun i => gathered m (ix 8192 8192 (256 * t + (i 0).val) (i 1).val)
/-- The device's columns of `w`. -/
abbrev wBlock (c : Dev nD) : S8192x1024.Idx → Elt F .bf16 := m ((c : Thread nD τ).loc main_arg1)
/-- Tile `t` of the device's columns of the result. -/
def ytile (c : Dev nD) (t : ℕ) : S256x1024.Idx → Elt F .f32 := k0_pay5 (gtile m t) (wBlock m c)
/-- The device's columns of the result. -/
def result (c : Dev nD) : S8192x1024.Idx → Elt F .f32 := fun i => ytile m c ((i 0).val / 256) (ix 256 1024 (i 0).val (i 1).val)

/-- Rows `[a, a+n)` of device `c`'s gathered copy, at share `q` and contents `f`. -/
def gPts (c : Dev nD) (a n : ℕ) (q : PosShare TreeShare) (f : S8192x8192.Idx → Elt F .bf16) : sProp 𝕄 :=
  gLoc c ↦[(rows 8192 8192 a n : Finset (Idx (gLoc c)))]{q} f
instance gPts_storable (c : Dev nD) (a n : ℕ) (q : PosShare TreeShare) (f : S8192x8192.Idx → Elt F .bf16) :
    BI.Storable (upEmb : UEmb _ 𝕄) (gPts (F := F) c a n q f) := by unfold gPts; infer_instance

/-- The rows transfer `s` of device `c` lands in, still free. -/
def land (s : Fin 12) (c : Dev nD) : sProp 𝕄 := iprop(∃ f, gPts (F := F) (dst s c) (sRow s c) (len s) fullShare f)
instance land_storable (s : Fin 12) (c : Dev nD) : BI.Storable (upEmb : UEmb _ 𝕄) (land (F := F) s c) := by unfold land; infer_instance
/-- The rows device `c` received by transfer `s`. -/
def got (s : Fin 12) (c : Dev nD) : sProp 𝕄 := gPts c (rRow s c) (len s) fullShare (gathered m)
instance got_storable (s : Fin 12) (c : Dev nD) : BI.Storable (upEmb : UEmb _ 𝕄) (got (F := F) m s c) := by unfold got; infer_instance

/-! ## The cells -/

/-- A device's handshake cells: the barrier, and by transfer its send (`false`) and receive (`true`) semaphores. -/
abbrev Ck : Type := Unit ⊕ (Bool × Fin 12)

abbrev barS : Sem sig := barrier0
/-- Transfer `s`'s send semaphore. -/
abbrev sendS (s : Fin 12) : DmaSem sig := ⟨1 + s.val, Nat.lt_of_lt_of_le (Nat.add_lt_add_left s.isLt 1) (by decide)⟩
/-- Transfer `s`'s receive semaphore. -/
abbrev recvS (s : Fin 12) : DmaSem sig := ⟨13 + s.val, Nat.lt_of_lt_of_le (Nat.add_lt_add_left s.isLt 13) (by decide)⟩
/-- The semaphore of a cell. -/
def csem : Ck → SemLoc sig
  | .inl _ => .reg barS
  | .inr (false, s) => .dma (sendS s)
  | .inr (true, s) => .dma (recvS s)
/-- The cell of a semaphore, if it is one's. -/
def kind : SemLoc sig → Option Ck
  | .reg r => if r = barS then some (.inl ()) else none
  | .dma q => if h : 1 ≤ q.val ∧ q.val < 13 then some (.inr (false, ⟨q.val - 1, by omega⟩))
      else if h : 13 ≤ q.val ∧ q.val < 25 then some (.inr (true, ⟨q.val - 13, by omega⟩)) else none
theorem kind_csem (k : Ck) : kind (csem k) = some k := by revert k; decide
theorem csem_injective : Function.Injective csem := fun k k' h => by
  have := congrArg kind h; rw [kind_csem, kind_csem] at this; exact Option.some.inj this

/-- Device `c`'s cell `k`. -/
abbrev kcell (ck : Dev nD × Ck) : GSem nD τ sig := ((ck.1 : Thread nD τ), csem ck.2)
abbrev barCell (c : Dev nD) : GSem nD τ sig := kcell (c, .inl ())
abbrev sendCell (s : Fin 12) (c : Dev nD) : GSem nD τ sig := kcell (c, .inr (false, s))
abbrev recvCell (s : Fin 12) (c : Dev nD) : GSem nD τ sig := kcell (c, .inr (true, s))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit of a transfer of `n` rows of the gathered copy. -/
def credit (n : ℕ) (h : ∀ a, (![0, 0] : Fin 2 → ℕ) a + (![n, 8192] : Fin 2 → ℕ) a ≤ S8192x8192.size a) : ℕ :=
  ((gM : Memref sig .tc .hbm S8192x8192 .bf16).slice (Rect.unit (s := S8192x8192) ![0, 0] ![n, 8192] h) (fun _ => rfl)).view.dmaCredit
/-- The credit of transfer `s`. -/
def amt (s : Fin 12) : ℕ := if s.val < 4 then credit 1024 (by decide) else credit 256 (by decide)
theorem amt_pos (s : Fin 12) : 0 < amt s := by
  unfold amt credit
  split
  · exact View.dmaCredit_pos _ (by decide)
  · exact View.dmaCredit_pos _ (by decide)

/-! ## The schedule: one round on every cell -/

/-- What the barrier cell of device `c` hands over: with `true` (from the right) the rows there its transfers to the
    right land in, with `false` those on the left. -/
def barPay (c : Dev nD) (d : Bool) : sProp 𝕄 := bigSep (Finset.univ.filter fun s => toRight s = d) fun s => land (F := F) s c

/-- What cell `k` of device `c` hands over: a receive cell the rows received, a send cell nothing. -/
def pay (c : Dev nD) (k : Ck) (d : Bool) : sProp 𝕄 := match k with
  | .inl _ => barPay c d
  | .inr (false, _) => iprop(emp)
  | .inr (true, s) => got m s c
instance pay_storable (c : Dev nD) (k : Ck) (d : Bool) : BI.Storable (upEmb : UEmb _ 𝕄) (pay (F := F) m c k d) := by
  unfold pay barPay
  rcases k with _ | ⟨_ | _, s⟩ <;> dsimp only <;> infer_instance

/-- The duties of a cell. -/
def cduties : Ck → Finset Bool
  | .inl _ => Finset.univ
  | .inr _ => {false}
/-- What a duty of a cell is worth. -/
def camt : Ck → ℕ
  | .inl _ => 1
  | .inr (_, s) => amt s
theorem camt_pos (k : Ck) : 0 < camt k := by
  rcases k with _ | ⟨_, s⟩
  · exact Nat.one_pos
  · exact amt_pos s

/-- The schedule of the handshake cells: one round each. -/
def Rd : Rounds.Schedule (GSem nD τ sig) Bool 𝕄 where
  duties g r := if r = 0 ∧ g.1.2 = .tc then (match kind g.2 with | some k => cduties k | none => ∅) else ∅
  unitless _ := False
  amount g _ _ := match kind g.2 with | some k => camt k | none => 1
  payload g _ d := match kind g.2 with | some k => pay m g.1.1 k d | none => iprop(emp)
  amount_pos g _ _ _ := by
    cases h : kind g.2 with
    | none => exact Nat.one_pos
    | some k => exact camt_pos k

instance Rd_payload_storable (g : GSem nD τ sig) (r : ℕ) (d : Bool) :
    BI.Storable (upEmb : UEmb _ 𝕄) ((Rd (F := F) m).payload g r d) := by
  show BI.Storable upEmb (match kind g.2 with | some k => pay m g.1.1 k d | none => iprop(emp))
  cases h : kind g.2 with
  | none => dsimp only; infer_instance
  | some k => dsimp only; infer_instance

section Sched
variable (c : Dev nD) (k : Ck)

theorem Rd_duties : (Rd (F := F) m).duties (kcell (c, k)) 0 = cduties k := by
  dsimp only [Rd]; rw [if_pos ⟨rfl, rfl⟩, kind_csem]
theorem Rd_later (g : GSem nD τ sig) : ∀ r, 1 ≤ r → (Rd (F := F) m).duties g r = ∅ :=
  fun r hr => by dsimp only [Rd]; rw [if_neg fun h => by omega]
theorem Rd_amount (d : Bool) : (Rd (F := F) m).amount (kcell (c, k)) 0 d = camt k := by dsimp only [Rd]; rw [kind_csem]
theorem Rd_payload (d : Bool) : (Rd (F := F) m).payload (kcell (c, k)) 0 d = pay m c k d := by dsimp only [Rd]; rw [kind_csem]

theorem Rd_expect_bar : (Rd (F := F) m).expect (barCell c) 0 = 2 := by
  unfold Schedule.expect Schedule.amountOf
  rw [Rd_duties, Finset.sum_congr rfl fun d _ => Rd_amount m c (.inl ()) d]; rfl
theorem Rd_expect_xfer (b : Bool) (s : Fin 12) : (Rd (F := F) m).expect (kcell (c, .inr (b, s))) 0 = amt s := by
  unfold Schedule.expect Schedule.amountOf
  rw [Rd_duties]; unfold cduties; rw [Finset.sum_singleton, Rd_amount]; rfl

theorem Rd_rest_bar : bigSep ((Rd (F := F) m).duties (barCell c) 0 \ ∅) (fun d => (Rd (F := F) m).payload (barCell c) 0 d)
    = iprop(barPay c false ∗ barPay c true) := by
  rw [Finset.sdiff_empty, Rd_duties, bigSep_congr fun d _ => Rd_payload m c (.inl ()) d]
  exact bigSep_univ_eq_bigSepL [false, true] (by decide) (by decide) _
theorem Rd_rest_xfer (b : Bool) (s : Fin 12) :
    bigSep ((Rd (F := F) m).duties (kcell (c, .inr (b, s))) 0 \ ∅) (fun d => (Rd (F := F) m).payload (kcell (c, .inr (b, s))) 0 d)
      = pay m c (.inr (b, s)) false := by
  rw [Finset.sdiff_empty, Rd_duties]; unfold cduties; rw [bigSep_singleton, Rd_payload]

end Sched

/-! ## What a device owes; the levels -/

/-- The receive credits device `c` owes while the transfers `S` are still to be started. -/
def owed (c : Dev nD) (S : Finset (Fin 12)) : CellTallies nD τ sig Unit := ∑ s ∈ S, tallyAt (recvCell s (dst s c)) () (amt s)
theorem owed_empty (c : Dev nD) : owed c ∅ = 0 := by unfold owed; exact Finset.sum_empty
theorem owed_erase (c : Dev nD) {S : Finset (Fin 12)} {s : Fin 12} (h : s ∈ S) :
    owed c S = owed c (S.erase s) + tallyAt (recvCell s (dst s c)) () (amt s) := by
  unfold owed; exact (Finset.sum_erase_add S _ h).symm
/-- What device `c` owes at launch: the twelve receive credits, and a unit to each neighbour's barrier. -/
def O₁ (c : Dev nD) : CellTallies nD τ sig Unit := owed c Finset.univ + tallyAt (barCell (nxt c)) () 1
def O₀ (c : Dev nD) : CellTallies nD τ sig Unit := O₁ c + tallyAt (barCell (prv c)) () 1

theorem owed_pos {c : Dev nD} {S : Finset (Fin 12)} {g : GSem nD τ sig} {u : Unit} (h : 0 < owed c S g u) :
    ∃ s ∈ S, g = recvCell s (dst s c) := by
  unfold owed at h
  rw [Finset.sum_apply, Finsupp.finset_sum_apply] at h
  obtain ⟨s, hs, hp⟩ := Finset.exists_ne_zero_of_sum_ne_zero (Nat.pos_iff_ne_zero.mp h)
  refine ⟨s, hs, ?_⟩
  rw [tallyAt_apply] at hp
  by_contra hn
  exact hp (if_neg fun h' => hn h'.1)
theorem O₀_pos {c : Dev nD} {g : GSem nD τ sig} {u : Unit} (h : 0 < O₀ c g u) :
    (∃ s, g = recvCell s (dst s c)) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  rw [if_neg (fun h' => hn.2.1 h'.1), if_neg (fun h' => hn.2.2 h'.1)] at h
  obtain ⟨s, -, hs⟩ := owed_pos (S := Finset.univ) (c := c) (g := g) (u := u) (by simpa only [Nat.add_zero] using h)
  exact hn.1 ⟨s, hs⟩

/-- The cells' index sets. -/
def L (g : GSem nD τ sig) : Finset Unit := if g.1.2 = .tc then {()} else ∅
/-- The level of a cell: transfers 0 and 1 are received before the others are sent. -/
def clev : Ck → ℕ
  | .inl _ => 1
  | .inr (false, _) => 0
  | .inr (true, s) => if s.val < 2 then 2 else 3
/-- The level of a semaphore: the local transfers' and the staging ones' lowest. -/
def lv (g : GSem nD τ sig) (_ : Unit) : ℕ := match kind g.2 with | some k => clev k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Ck) (u : Unit) : lv (kcell (c, k)) u = clev k := by unfold lv; rw [kind_csem]

/-- A device may wait on a semaphore of level `n` while it owes cells of higher levels only. -/
theorem mayWait_of (c : Dev nD) (sm : SemLoc sig) (n : ℕ) (hn : lv ((c : Thread nD τ), sm) () ≤ n) (O : CellTallies nD τ sig Unit)
    (hO : ∀ (g : GSem nD τ sig) (u : Unit), 0 < O g u → ∃ c' k, g = kcell (c', k) ∧ n < clev k) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, -⟩ := hO g u hg; exact Finset.mem_singleton_self _)
    (fun p hp => by rw [Finset.mem_singleton.mp hp]; exact hn)
    (fun g u hg => by obtain ⟨c', k, rfl, hk⟩ := hO g u hg; rw [lv_kcell]; exact hk)

theorem clev_recv (s : Fin 12) : 2 ≤ clev (.inr (true, s)) := by unfold clev; dsimp only; split <;> omega

/-- While it owes receive credits only, a device may wait on its barrier, on its send cells and on any semaphore that is
    no handshake cell's. -/
theorem mayWait_owed (c : Dev nD) (sm : SemLoc sig) (S : Finset (Fin 12)) (h : lv ((c : Thread nD τ), sm) () ≤ 1) :
    (levAts L lv : sProp 𝕄) ⊢ MayWait (c : Thread nD τ) sm () (owed c S) :=
  mayWait_of c sm 1 h _ fun g u hg => by
    obtain ⟨s, -, rfl⟩ := owed_pos hg
    exact ⟨dst s c, _, rfl, clev_recv s⟩
/-- While transfers 0 and 1 are under way a device may wait for what they bring. -/
theorem mayWait_first (c : Dev nD) (s : Fin 12) (hs : s.val < 2) (S : Finset (Fin 12)) (hS : ∀ s ∈ S, 2 ≤ s.val) :
    (levAts L lv : sProp 𝕄) ⊢ MayWait (c : Thread nD τ) (csem (.inr (true, s))) () (owed c S) :=
  mayWait_of c _ 2 (by rw [show ((c : Thread nD τ), csem (.inr (true, s))) = kcell (c, .inr (true, s)) from rfl, lv_kcell]; unfold clev; dsimp only; rw [if_pos hs]) _
    fun g u hg => by
      obtain ⟨s', hs', rfl⟩ := owed_pos hg
      have := hS s' hs'
      exact ⟨dst s' c, _, rfl, by unfold clev; dsimp only; rw [if_neg (by omega)]; decide⟩
/-- At launch a device may wait on a semaphore of level 0. -/
theorem mayWait_launch (c : Dev nD) (sm : SemLoc sig) (h : lv ((c : Thread nD τ), sm) () ≤ 0) :
    (levAts L lv : sProp 𝕄) ⊢ MayWait (c : Thread nD τ) sm () (O₀ c) :=
  mayWait_of c sm 0 h _ fun g u hg => by
    rcases O₀_pos hg with ⟨s, rfl⟩ | rfl | rfl
    · exact ⟨dst s c, _, rfl, Nat.lt_of_lt_of_le (by decide) (clev_recv s)⟩
    · exact ⟨nxt c, _, rfl, Nat.one_pos⟩
    · exact ⟨prv c, _, rfl, Nat.one_pos⟩

end Cert.GatherMatmul

end
-- ==== Proof.Rows.lean ====
/-
# What the windows cover and what the transfers and stores leave there

A window of whole rows covers those rows; a slot of a double buffer covers a slab. Per kind of transfer and for the
two stores: what the destination holds afterwards.
-/
module

public import proofs.«01_k».proof.Proof.Common
public import Idealize.ShloMosaic.Lib.ValueLayout
public import Idealize.ShloMosaic.Lib.Pipeline.Value

@[expose] public section

noncomputable section

namespace Cert.GatherMatmul

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Windows of whole rows -/

/-- A window of `n` whole rows from row `a` on covers them. -/
theorem rowRect_set {A B : ℕ} {off sz : Fin 2 → ℕ} {a n : ℕ} (ho : off = ![a, 0]) (hs : sz = ![n, B])
    (inb : ∀ k, off k + sz k ≤ (⟨2, ![A, B]⟩ : Shape).size k) :
    (Rect.unit (s := ⟨2, ![A, B]⟩) off sz inb).set = rows A B a n := by
  subst ho hs
  ext i
  rw [Rect.mem_set_unit, mem_rows]
  constructor
  · intro h; exact h 0
  · intro h k
    match k with
    | ⟨0, _⟩ => exact h
    | ⟨1, _⟩ => exact ⟨Nat.zero_le _, by show (i 1).val < 0 + B; rw [Nat.zero_add]; exact (i 1).isLt⟩

/-- Element `x` of such a window is element `(a + x₀, x₁)` of the buffer. -/
theorem rowRect_emb {A B : ℕ} [NeZero A] [NeZero B] {off sz : Fin 2 → ℕ} {a n : ℕ} (ho : off = ![a, 0]) (hs : sz = ![n, B])
    (inb : ∀ k, off k + sz k ≤ (⟨2, ![A, B]⟩ : Shape).size k) (x : (⟨2, sz⟩ : Shape).Idx) :
    (Rect.unit (s := ⟨2, ![A, B]⟩) off sz inb).emb x = ix A B (a + (x 0).val) (x 1).val := by
  subst ho hs
  funext k; apply Fin.ext
  match k with
  | ⟨0, _⟩ =>
    have h0 : a + n ≤ A := inb 0
    have hx : (x 0).val < n := (x 0).isLt
    show a + 1 * (x 0).val = (a + (x 0).val) % A
    rw [Nat.one_mul, Nat.mod_eq_of_lt (by omega)]
  | ⟨1, _⟩ =>
    have hx : (x 1).val < B := (x 1).isLt
    show 0 + 1 * (x 1).val = (x 1).val % B
    rw [Nat.one_mul, Nat.zero_add, Nat.mod_eq_of_lt hx]

/-- An element of rows `[a, a+n)` is its window's element `(i₀ - a, i₁)`. -/
theorem rowRect_emb_of_mem {A B : ℕ} {off sz : Fin 2 → ℕ} {a n : ℕ} (ho : off = ![a, 0]) (hs : sz = ![n, B])
    (inb : ∀ k, off k + sz k ≤ (⟨2, ![A, B]⟩ : Shape).size k) {i : (⟨2, ![A, B]⟩ : Shape).Idx} (hi : i ∈ rows A B a n) :
    ∃ x : (⟨2, sz⟩ : Shape).Idx, (Rect.unit (s := ⟨2, ![A, B]⟩) off sz inb).emb x = i ∧ (x 0).val = (i 0).val - a ∧ (x 1).val = (i 1).val := by
  subst ho hs
  rw [mem_rows] at hi
  refine ⟨ix2 ⟨(i 0).val - a, by omega⟩ ⟨(i 1).val, (i 1).isLt⟩, ?_, rfl, rfl⟩
  funext k; apply Fin.ext
  match k with
  | ⟨0, _⟩ => show a + 1 * ((i 0).val - a) = (i 0).val; omega
  | ⟨1, _⟩ => show 0 + 1 * (i 1).val = (i 1).val; omega

/-! ## Slots of a double buffer -/

/-- Slot `b` of a double buffer. -/
def slab (b : Fin 2) : Finset S2x128x8192.Idx := Finset.univ.filter fun i => (i 0).val = b.val
theorem mem_slab {b : Fin 2} {i : S2x128x8192.Idx} : i ∈ slab b ↔ (i 0).val = b.val := by
  unfold slab; rw [Finset.mem_filter]; exact ⟨fun h => h.2, fun h => ⟨Finset.mem_univ _, h⟩⟩

theorem slabRect_set {boff : Fin 3 → ℕ} {b : Fin 2} (hb : boff = ![b.val, 0, 0])
    (inb : ∀ k, boff k + S1x128x8192.size k ≤ S2x128x8192.size k) :
    (Rect.unit (s := S2x128x8192) boff S1x128x8192.size inb).set = slab b := by
  subst hb
  ext i
  rw [Rect.mem_set_unit, mem_slab]
  constructor
  · intro h
    have h0 : b.val ≤ (i 0).val ∧ (i 0).val < b.val + 1 := h 0
    omega
  · intro h k
    match k with
    | ⟨0, _⟩ =>
      have h0 : (i 0).val = b.val := h
      show b.val ≤ (i 0).val ∧ (i 0).val < b.val + 1
      omega
    | ⟨1, _⟩ => exact ⟨Nat.zero_le _, by show (i 1).val < 0 + 128; rw [Nat.zero_add]; exact (i 1).isLt⟩
    | ⟨2, _⟩ => exact ⟨Nat.zero_le _, by show (i 2).val < 0 + 8192; rw [Nat.zero_add]; exact (i 2).isLt⟩

theorem slabRect_emb {boff : Fin 3 → ℕ} {b : Fin 2} (hb : boff = ![b.val, 0, 0])
    (inb : ∀ k, boff k + S1x128x8192.size k ≤ S2x128x8192.size k) (u : Fin 1) (x : Fin 128) (y : Fin 8192) :
    (Rect.unit (s := S2x128x8192) boff S1x128x8192.size inb).emb (ix3 u x y) = ix3 b x y := by
  subst hb
  funext k; apply Fin.ext
  match k with
  | ⟨0, _⟩ => show b.val + 1 * u.val = b.val; omega
  | ⟨1, _⟩ => show 0 + 1 * x.val = x.val; omega
  | ⟨2, _⟩ => show 0 + 1 * y.val = y.val; omega

/-- Slot `b` of a double buffer as a window of 128 rows. -/
abbrev slot {e : EltTy} (M : Memref sig .tc .vmem S2x128x8192 e) (boff : Fin 3 → ℕ)
    (inb : ∀ k, boff k + S1x128x8192.size k ≤ S2x128x8192.size k) : Memref sig .tc .vmem S128x8192 e :=
  (M.slice (Rect.unit (s := S2x128x8192) boff S1x128x8192.size inb) (fun _ => rfl)).squeeze S128x8192 squeezes_S1x128x8192_S128x8192

section Slot
variable {e : EltTy} (M : Memref sig .tc .vmem S2x128x8192 e) {boff : Fin 3 → ℕ} {b : Fin 2} (hb : boff = ![b.val, 0, 0])
  (inb : ∀ k, boff k + S1x128x8192.size k ≤ S2x128x8192.size k)
include hb

theorem slot_emb (x : Fin 128) (y : Fin 8192) : (slot M boff inb).view.emb (ix2 x y) = M.view.emb (ix3 b x y) := by
  show M.view.emb ((Rect.unit (s := S2x128x8192) boff S1x128x8192.size inb).emb (Shape.reshapeEquiv _ (ix2 x y))) = _
  rw [reshapeEquiv_ix2_1ab, slabRect_emb hb]

end Slot

theorem slotA_set {boff : Fin 3 → ℕ} {b : Fin 2} (hb : boff = ![b.val, 0, 0])
    (inb : ∀ k, boff k + S1x128x8192.size k ≤ S2x128x8192.size k) : (slot aM boff inb).view.set = slab b :=
  ((View.set_reshape (v := (aM.slice (Rect.unit (s := S2x128x8192) boff S1x128x8192.size inb) (fun _ => rfl)).view) _).trans
    (View.set_slice_whole cc0_scratch0 _)).trans (slabRect_set hb inb)
theorem slotB_set {boff : Fin 3 → ℕ} {b : Fin 2} (hb : boff = ![b.val, 0, 0])
    (inb : ∀ k, boff k + S1x128x8192.size k ≤ S2x128x8192.size k) : (slot bM boff inb).view.set = slab b :=
  ((View.set_reshape (v := (bM.slice (Rect.unit (s := S2x128x8192) boff S1x128x8192.size inb) (fun _ => rfl)).view) _).trans
    (View.set_slice_whole cc0_scratch1 _)).trans (slabRect_set hb inb)

/-! ## What the double buffers hold -/

variable (m : (ℓ : Loc nD τ sig) → Buf (Elt F) ℓ)

/-- Tile `t` (128 rows) of the device's rows of `x`, as a slot of the first double buffer holds it. -/
def atile (c : Dev nD) (t : ℕ) : S2x128x8192.Idx → Elt F .f32 := fun i => m (xLoc c) (ix 2048 8192 (128 * t + (i 1).val) (i 2).val)
/-- The same tile cast to bf16, as a slot of the second double buffer holds it. -/
def btile (c : Dev nD) (t : ℕ) : S2x128x8192.Idx → Elt F .bf16 := fun i => FloatOps.truncf .bf16 bitsLt_bf16_f32 (atile m c t i)

/-- Row `128 t + r` of the device's rows is row `2048 c + 128 t + r` of the gathered copy. -/
theorem gathered_own (c : Dev nD) (t r k : ℕ) (ht : t < 16) (hr : r < 128) (i : S8192x8192.Idx)
    (h0 : (i 0).val = 2048 * c.val + 128 * t + r) (h1 : (i 1).val = k) :
    gathered m i = FloatOps.truncf .bf16 bitsLt_bf16_f32 (m (xLoc c) (ix 2048 8192 (128 * t + r) k)) := by
  have hh : holder (i 0).val = c := Fin.ext (by
    show ((i 0).val / 2048) % 4 = c.val
    have := c.isLt
    have h4 : c.val < 4 := this
    omega)
  have hx : ix 2048 8192 (i 0).val (i 1).val = ix 2048 8192 (128 * t + r) k := by
    funext a; apply Fin.ext
    match a with
    | ⟨0, _⟩ => show (i 0).val % 2048 = (128 * t + r) % 2048; omega
    | ⟨1, _⟩ => show (i 1).val % 8192 = k % 8192; omega
  unfold gathered
  rw [hh, hx]

/-- An element of slot `b` in coordinates. -/
theorem exists_of_mem_slab {b : Fin 2} {i : S2x128x8192.Idx} (hi : i ∈ slab b) : ∃ (x : Fin 128) (y : Fin 8192), i = ix3 b x y := by
  obtain rfl : b = i 0 := Fin.ext (mem_slab.mp hi).symm
  exact ⟨i 1, i 2, eq_ix3 i⟩

/-- V1: the transfer of tile `t` into slot `b` of the first double buffer leaves the tile there. -/
theorem castIn_value (c : Dev nD) (t : ℕ) {off : Fin 2 → ℕ} (ho : off = ![128 * t, 0])
    (inb : ∀ k, off k + S128x8192.size k ≤ S2048x8192.size k) {boff : Fin 3 → ℕ} {b : Fin 2} (hb : boff = ![b.val, 0, 0])
    (binb : ∀ k, boff k + S1x128x8192.size k ≤ S2x128x8192.size k) (fd : S2x128x8192.Idx → Elt F .f32)
    (i : S2x128x8192.Idx) (hi : i ∈ slab b) :
    (slot aM boff binb).view.write (Elt F) fd
      ((xM.slice (Rect.unit (s := S2048x8192) off S128x8192.size inb) (fun _ => rfl)).view.read (Elt F) (m (xLoc c))) Finset.univ i
      = atile m c t i := by
  obtain ⟨x, y, rfl⟩ := exists_of_mem_slab hi
  have e : (slot aM boff binb).view.emb (ix2 x y) = ix3 b x y := slot_emb aM hb binb x y
  rw [← e, View.write_emb_of_mem _ _ (Finset.mem_univ _), e]
  show m (xLoc c) ((Rect.unit (s := S2048x8192) off S128x8192.size inb).emb (ix2 x y)) = _
  rw [rowRect_emb ho rfl inb]
  rfl

/-- V2: the store of the cast of slot `b` of the first double buffer leaves the cast tile in slot `b` of the second. -/
theorem castStore_value (c : Dev nD) (t : ℕ) {boff : Fin 3 → ℕ} {b : Fin 2} (hb : boff = ![b.val, 0, 0])
    (binb : ∀ k, boff k + S1x128x8192.size k ≤ S2x128x8192.size k) (fd : S2x128x8192.Idx → Elt F .bf16)
    (i : S2x128x8192.Idx) (hi : i ∈ slab b) :
    (bM.access (Rect.unit (s := S2x128x8192) boff S1x128x8192.size binb)).write (Elt F) fd
      (k0_pay1 (aM.view.readAt (Elt F) (Rect.unit (s := S2x128x8192) boff S1x128x8192.size binb).toLoadRect (atile m c t))) Finset.univ i
      = btile m c t i := by
  obtain ⟨x, y, rfl⟩ := exists_of_mem_slab hi
  have e : (bM.access (Rect.unit (s := S2x128x8192) boff S1x128x8192.size binb)).emb (ix3 (0 : Fin 1) x y) = ix3 b x y :=
    slabRect_emb hb binb 0 x y
  rw [← e, View.write_emb_of_mem _ _ (Finset.mem_univ _), e]
  show k0_pay1 (aM.view.readAt (Elt F) (Rect.unit (s := S2x128x8192) boff S1x128x8192.size binb).toLoadRect (atile m c t)) (ix3 (0 : Fin 1) x y) = _
  unfold k0_pay1
  dsimp only
  refine (shapeCast_ab_1ab_apply _ _ (0 : Fin 1) x y).trans ?_
  show FloatOps.truncf .bf16 bitsLt_bf16_f32 (shapeCast S128x8192 _ _ (ix2 x y)) = _
  refine (congrArg (FloatOps.truncf .bf16 bitsLt_bf16_f32) (shapeCast_1ab_ab_apply _ _ x y)).trans ?_
  show FloatOps.truncf .bf16 bitsLt_bf16_f32 (atile m c t ((Rect.unit (s := S2x128x8192) boff S1x128x8192.size binb).emb (ix3 (0 : Fin 1) x y))) = _
  rw [slabRect_emb hb]
  rfl

/-- V3: the transfer of slot `b` of the second double buffer, holding tile `t`, leaves gathered rows. -/
theorem stage_value (c : Dev nD) (t : ℕ) (ht : t < 16) {off : Fin 2 → ℕ} (ho : off = ![2048 * c.val + 128 * t, 0])
    (inb : ∀ k, off k + S128x8192.size k ≤ S8192x8192.size k) {boff : Fin 3 → ℕ} {b : Fin 2} (hb : boff = ![b.val, 0, 0])
    (binb : ∀ k, boff k + S1x128x8192.size k ≤ S2x128x8192.size k) (fd : S8192x8192.Idx → Elt F .bf16)
    (i : S8192x8192.Idx) (hi : i ∈ rows 8192 8192 (2048 * c.val + 128 * t) 128) :
    (gM.slice (Rect.unit (s := S8192x8192) off S128x8192.size inb) (fun _ => rfl)).view.write (Elt F) fd
      ((slot bM boff binb).view.read (Elt F) (btile m c t)) Finset.univ i = gathered m i := by
  obtain ⟨x, e, h0, h1⟩ := rowRect_emb_of_mem ho rfl inb hi
  rw [mem_rows] at hi
  have e' : (gM.slice (Rect.unit (s := S8192x8192) off S128x8192.size inb) (fun _ => rfl)).view.emb x = i := e
  conv_lhs => rw [← e']
  rw [View.write_emb_of_mem _ _ (Finset.mem_univ _)]
  obtain ⟨r, k, rfl⟩ : ∃ (r : Fin 128) (k : Fin 8192), x = ix2 r k := ⟨x 0, x 1, eq_ix2 x⟩
  have h0' : r.val = (i 0).val - (2048 * c.val + 128 * t) := h0
  show btile m c t ((slot bM boff binb).view.emb (ix2 r k)) = _
  rw [show (slot bM boff binb).view.emb (ix2 r k) = ix3 b r k from slot_emb bM hb binb r k,
    gathered_own m c t r.val k.val ht r.isLt i (by omega) h1.symm]
  rfl

/-- V4: the transfer of rows `[256 T, 256 T + 256)` of the gathered copy leaves tile `T`. -/
theorem load_value (T : ℕ) {off : Fin 2 → ℕ} (ho : off = ![256 * T, 0])
    (inb : ∀ k, off k + S256x8192.size k ≤ S8192x8192.size k) (fd : S256x8192.Idx → Elt F .bf16) :
    (tM : Memref sig .tc .vmem S256x8192 .bf16).view.write (Elt F) fd
      ((gM.slice (Rect.unit (s := S8192x8192) off S256x8192.size inb) (fun _ => rfl)).view.read (Elt F) (gathered m)) Finset.univ = gtile m T := by
  refine (View.write_whole_univ (Val := Elt F) cc0_scratch2 fd _).trans ?_
  funext x
  show gathered m ((Rect.unit (s := S8192x8192) off S256x8192.size inb).emb x) = _
  rw [rowRect_emb ho rfl inb]
  rfl

/-- V6: the transfer of the result tile `T` to rows `[256 T, 256 T + 256)` leaves the result there. -/
theorem out_value (c : Dev nD) (T : ℕ) {off : Fin 2 → ℕ} (ho : off = ![256 * T, 0])
    (inb : ∀ k, off k + S256x1024.size k ≤ S8192x1024.size k) (fd : S8192x1024.Idx → Elt F .f32)
    (i : S8192x1024.Idx) (hi : i ∈ rows 8192 1024 (256 * T) 256) :
    (oM.slice (Rect.unit (s := S8192x1024) off S256x1024.size inb) (fun _ => rfl)).view.write (Elt F) fd
      ((yM : Memref sig .tc .vmem S256x1024 .f32).view.read (Elt F) (ytile m c T)) Finset.univ i = result m c i := by
  obtain ⟨x, e, h0, h1⟩ := rowRect_emb_of_mem ho rfl inb hi
  rw [mem_rows] at hi
  have e' : (oM.slice (Rect.unit (s := S8192x1024) off S256x1024.size inb) (fun _ => rfl)).view.emb x = i := e
  conv_lhs => rw [← e']
  rw [View.write_emb_of_mem _ _ (Finset.mem_univ _)]
  show ytile m c T x = result m c i
  unfold result
  rw [show (i 0).val / 256 = T from by omega]
  congr 1
  funext k; apply Fin.ext
  match k with
  | ⟨0, _⟩ => show (x 0).val = (i 0).val % 256; omega
  | ⟨1, _⟩ =>
    have : (i 1).val < 1024 := (i 1).isLt
    show (x 1).val = (i 1).val % 1024; omega

end Cert.GatherMatmul

end
-- ==== Proof.Steps.lean ====
/-
# The steps of a device's run

One lemma per kind of step: a transfer to a neighbour, the wait for its departure, the wait for an arrival, the local
transfers (rows of `x` into a slot, a cast slot into the gathered copy, a tile into the multiplier, a result tile out)
and their wait, and the cast of a slot.
-/
module

public import proofs.«01_k».proof.Proof.Rows

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device holds of a transfer -/

/-- What device `c` owes while the transfers `S` are still to be started. -/
def owesS (c : Dev nD) (S : Finset (Fin 12)) : sProp 𝕄 := iprop(∃ W, owes (c : Thread nD τ) (owed c S) W)

/-- The handshake cells' invariants and their first rounds reached, for every device. -/
def recs (K : Dev nD × Ck → ℕ) : sProp 𝕄 :=
  bigSep Finset.univ fun ck : Dev nD × Ck => iprop(cellInv ER (Rd m) (K ck) (kcell ck) ∗ reached ER (kcell ck) 0)
instance recs_persistent (K : Dev nD × Ck → ℕ) : BI.Persistent (recs (F := F) m K) := by unfold recs; infer_instance
theorem recs_elim (K : Dev nD × Ck → ℕ) (ck : Dev nD × Ck) :
    recs (F := F) m K ⊢ iprop(cellInv ER (Rd m) (K ck) (kcell ck) ∗ reached ER (kcell ck) 0) := by
  unfold recs; exact bigSep_elim (Finset.mem_univ ck)

/-- What device `c` needs to start transfer `s`: the duties of the two cells it credits, the rows it lands in, and its own
    position at the send cell. -/
def SendR (s : Fin 12) (c : Dev nD) : sProp 𝕄 :=
  iprop(dutyTok ER (sendCell s c) 0 false ∗ dutyTok ER (recvCell s (dst s c)) 0 false ∗ land (F := F) s c ∗ atPos ER (sendCell s c) 0 ∅ 0)
/-- The rows transfer `s` of device `c` carries, at some share. -/
def Src (s : Fin 12) (c : Dev nD) : sProp 𝕄 := iprop(∃ q, gPts c (sRow s c) (len s) q (gathered m))
/-- What device `c` keeps of a started transfer until it waits for its departure. -/
def Sent (s : Fin 12) (c : Dev nD) : sProp 𝕄 :=
  iprop(cred (tallyAt (sendCell s c) () (amt s)) ∗ atPos ER (sendCell s c) 0 ∅ 0)
/-- What device `c` holds of an expected transfer until it waits for its arrival. -/
def pend (s : Fin 12) (c : Dev nD) : sProp 𝕄 :=
  iprop(cred (tallyAt (recvCell s c) () (amt s)) ∗ atPos ER (recvCell s c) 0 ∅ 0)

theorem credit_eq (n : ℕ) (h : ∀ a, (![0, 0] : Fin 2 → ℕ) a + (![n, 8192] : Fin 2 → ℕ) a ≤ S8192x8192.size a) (off : Fin 2 → ℕ)
    (inb : ∀ k, off k + (![n, 8192] : Fin 2 → ℕ) k ≤ S8192x8192.size k) :
    ((gM : Memref sig .tc .hbm S8192x8192 .bf16).slice (Rect.unit (s := S8192x8192) off ![n, 8192] inb) (fun _ => rfl)).view.dmaCredit = credit n h := rfl
theorem amt_eq (s : Fin 12) : ∀ (n : ℕ) (h : ∀ a, (![0, 0] : Fin 2 → ℕ) a + (![n, 8192] : Fin 2 → ℕ) a ≤ S8192x8192.size a),
    n = len s → credit n h = amt s := by
  intro n h e
  unfold amt
  by_cases h4 : s.val < 4
  · rw [if_pos h4]; obtain rfl : n = 1024 := e.trans (if_pos h4); rfl
  · rw [if_neg h4]; obtain rfl : n = 256 := e.trans (if_neg h4); rfl
/-- A window of as many rows as transfer `s` carries has its credit. -/
theorem window_credit (s : Fin 12) {off sz : Fin 2 → ℕ} (hs : sz = ![len s, 8192]) (inb : ∀ k, off k + sz k ≤ S8192x8192.size k) :
    ((gM : Memref sig .tc .hbm S8192x8192 .bf16).slice (Rect.unit (s := S8192x8192) off sz inb) (fun _ => rfl)).view.dmaCredit = amt s := by
  subst hs
  have h : ∀ a, (![0, 0] : Fin 2 → ℕ) a + (![len s, 8192] : Fin 2 → ℕ) a ≤ S8192x8192.size a := by clear inb; revert s; decide
  exact (credit_eq (len s) h off inb).trans (amt_eq s (len s) h rfl)

/-- The rows a window of the gathered copy covers. -/
theorem gWin_set {off sz : Fin 2 → ℕ} {a n : ℕ} (ho : off = ![a, 0]) (hs : sz = ![n, 8192]) (inb : ∀ k, off k + sz k ≤ S8192x8192.size k) :
    ((gM : Memref sig .tc .hbm S8192x8192 .bf16).slice (Rect.unit (s := S8192x8192) off sz inb) (fun _ => rfl)).view.set = rows 8192 8192 a n :=
  (View.set_slice_whole main_v1_1 _).trans (rowRect_set ho hs inb)

/-! ## Transfers to a neighbour -/

section Remote
variable (K : Dev nD × Ck → ℕ) (c : Dev nD)

/-- Device `c` starts transfer `s`. -/
theorem wp_send (s : Fin 12) (n : Dev nD) (hn : n = dst s c) {off sz : Fin 2 → ℕ} (ho : off = ![sRow s c, 0]) (hs : sz = ![len s, 8192])
    {inb inb' : ∀ k, off k + sz k ≤ S8192x8192.size k} {sS rS : DmaSem sig} (h1 : sS = sendS s) (h2 : rS = recvS s)
    (S : Finset (Fin 12)) (hS : s ∈ S)
    {hsc : (gM.slice (Rect.unit (s := S8192x8192) off sz inb') (fun _ => rfl) : Memref sig (Dev.tc n : Thread nD τ).2.kind .hbm _ .bf16).view.ref.isScScratch = false}
    {hsrc : (gM.slice (Rect.unit (s := S8192x8192) off sz inb) (fun _ => rfl)).view.WordExact}
    {hdst : (gM.slice (Rect.unit (s := S8192x8192) off sz inb') (fun _ => rfl)).view.WordExact}
    {hsem : DmaTarget.Typed .hbm (.dma rS) (.remote (Dev.tc n : Thread nD τ) (gM.slice (Rect.unit (s := S8192x8192) off sz inb') (fun _ => rfl) : Memref sig .tc .hbm _ .bf16) (.dma sS) hsc)}
    {α : Type} {Q : α → sProp 𝕄} {k : PUnit → Prog (TpuEff nD τ sig (Elt F) Λ₀ .tc) α} :
    iprop(recs m K ∗ owesS c S ∗ SendR s c ∗ Src m s c)
      ⊢ iprop(((owesS c (S.erase s) ∗ Sent s c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gM.slice (Rect.unit (s := S8192x8192) off sz inb) (fun _ => rfl))
                (.remote (Dev.tc n : Thread nD τ) (gM.slice (Rect.unit (s := S8192x8192) off sz inb') (fun _ => rfl)) (.dma sS) hsc) (.dma rS) hsrc hdst hsem) k) Q) := by
  subst hn h1 h2
  unfold owesS SendR Src land Sent gPts
  iintro ⟨#Hrec, ⟨%W, HO⟩, ⟨Ht1, Ht2, ⟨%fn, Hd⟩, Hat⟩, ⟨%q, Hs⟩⟩ Hk
  ihave #H1 := (recs_elim m K (c, .inr (false, s))) $$ Hrec
  ihave #H2 := (recs_elim m K (dst s c, .inr (true, s))) $$ Hrec
  icases H1 with ⟨#HI1, #Hr1⟩
  icases H2 with ⟨#HI2, #Hr2⟩
  iapply (Rounds.wp_send_pointsTo 𝒱₀ ER (Rd m) (c : Thread nD τ) none (c' := (Dev.tc (dst s c) : Thread nD τ)) (κ₁ := K (c, .inr (false, s))) (κ₂ := K (dst s c, .inr (true, s)))
    (src := gM.slice (Rect.unit (s := S8192x8192) off sz inb) (fun _ => rfl)) (dst := gM.slice (Rect.unit (s := S8192x8192) off sz inb') (fun _ => rfl))
    (sS := .dma (sendS s)) (sem := .dma (recvS s)) (q := q) (fs := gathered m)
    (r₁ := 0) (r₂ := 0) (d₁ := false) (d₂ := false) (fd := fn)
    (by rw [show ((c : Thread nD τ), SemLoc.dma (sendS s)) = kcell (c, .inr (false, s)) from rfl, Rd_duties]; exact Finset.mem_singleton_self _)
    (by rw [show ((Dev.tc (dst s c) : Thread nD τ), SemLoc.dma (recvS s)) = kcell (dst s c, .inr (true, s)) from rfl, Rd_duties]; exact Finset.mem_singleton_self _)
    () () (amt s) (window_credit s hs inb') (Rd_amount m c (.inr (false, s)) false) (Rd_amount m (dst s c) (.inr (true, s)) false)
    (owed c (S.erase s)) (owed_erase c hS) (W := W)
    (by rw [show ((c : Thread nD τ), SemLoc.dma (sendS s)) = kcell (c, .inr (false, s)) from rfl, Rd_payload]; exact BI.Affine.affine)
    (by
      rw [show ((Dev.tc (dst s c) : Thread nD τ), SemLoc.dma (recvS s)) = kcell (dst s c, .inr (true, s)) from rfl, Rd_payload]
      show _ ⊢ got m s (dst s c)
      unfold got gPts
      rw [rRow_dst, gWin_set ho hs inb']
      refine Entails.of_eq (pointsTo_congr fun i hi => ?_)
      rw [View.write_read_eq_piecewise]
      refine Finset.piecewise_eq_of_mem _ _ _ ?_
      rw [View.setOn_univ, gWin_set ho hs inb']
      exact hi)) $$ [Ht1 Ht2 Hd Hs HO]
  · isplitr; · iexact HI1
    isplitr; · iexact HI2
    isplitl [Hs]; · rw [gWin_set ho hs inb]; iexact Hs
    isplitl [Hd]; · rw [gWin_set ho hs inb']; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  isplitl [Hc]; · iexact Hc
  iexact Hat

/-- The wait on a transfer's cell for all its credit, and the cell's end: the counter is zero again, and what the cell
    hands over is the device's. -/
theorem wp_wait_cell (b : Bool) (s : Fin 12) {off sz : Fin 2 → ℕ} (hs : sz = ![len s, 8192]) {inb inb' : ∀ k, off k + sz k ≤ S8192x8192.size k}
    {sm : DmaSem sig} (h1 : SemLoc.dma sm = csem (.inr (b, s))) (S : Finset (Fin 12))
    (hmay : (levAts L lv : sProp 𝕄) ⊢ MayWait (c : Thread nD τ) (csem (.inr (b, s))) () (owed c S))
    {hsrc : (gM.slice (Rect.unit (s := S8192x8192) off sz inb) (fun _ => rfl)).view.WordExact}
    {hdst : (gM.slice (Rect.unit (s := S8192x8192) off sz inb') (fun _ => rfl)).view.WordExact}
    {α : Type} {Q : α → sProp 𝕄} {k : PUnit → Prog (TpuEff nD τ sig (Elt F) Λ₀ .tc) α} :
    iprop(recs m K ∗ levAts L lv ∗ owesS c S ∗ cred (tallyAt (kcell (c, .inr (b, s))) () (amt s)) ∗ atPos ER (kcell (c, .inr (b, s))) 0 ∅ 0)
      ⊢ iprop(((owesS c S ∗ semVal (kcell (c, .inr (b, s))) 0 ∗ pay m c (.inr (b, s)) false) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sm (gM.slice (Rect.unit (s := S8192x8192) off sz inb) (fun _ => rfl))
                (gM.slice (Rect.unit (s := S8192x8192) off sz inb') (fun _ => rfl)) hsrc hdst) k) Q) := by
  have hcell : ((c : Thread nD τ), SemLoc.dma sm) = kcell (c, .inr (b, s)) := by rw [h1]
  unfold owesS
  iintro ⟨#Hrec, #Hlev, ⟨%W, HO⟩, Hc, Hat⟩ Hk
  ihave #H1 := (recs_elim m K (c, .inr (b, s))) $$ Hrec
  icases H1 with ⟨#HI, #Hr⟩
  iapply (Rounds.wp_wait_rest_token 𝒱₀ ER (Rd m) (c : Thread nD τ) none (κ := K (c, .inr (b, s))) (sm := .dma sm)
      (wpE_waitDma2_eq 𝒱₀ (c : Thread nD τ) none Set.univ) (Set.mem_univ _) () (O := owed c S) (W := W) (R := 0) (m := 0) (T := ∅)
      (by rw [Nat.zero_add, window_credit s hs inb', hcell]; exact (Rd_expect_xfer m c b s).symm)) $$ [Hc HO Hat]
  · rw [hcell, window_credit s hs inb', h1]
    isplitr; · iexact HI
    isplitl [Hc]; · iexact Hc
    isplitl [HO]; · iexact HO
    isplitr; · iapply hmay $$ Hlev
    iexact Hat
  rw [hcell]
  iintro ⟨HO, Hat, -, Hpay⟩
  imod (Rounds.cell_close ER (Rd m) (Set.mem_univ (K (c, .inr (b, s)))) (fun h => h) (R := 0 + 1) (Rd_later m (kcell (c, .inr (b, s))))) $$ [Hat] with Hz
  · isplitr; · iexact HI
    iexact Hat
  iapply Hk
  isplitl [HO]; · iexists _; iexact HO
  isplitl [Hz]; · iexact Hz
  iapply (Entails.of_eq (Rd_rest_xfer m c b s)); iexact Hpay

end Remote

end Cert.GatherMatmul

end
-- ==== Proof.Local.lean ====
/-
# The steps inside one device

The local transfers (rows of `x` into a slot, a cast slot into the gathered copy, a tile of gathered rows into the
multiplier, a result tile out), the wait for one, and the cast of a slot.
-/
module

public import proofs.«01_k».proof.Proof.Steps

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The local semaphores and what they deliver -/

/-- The semaphore of the transfers into slot `b` of the first double buffer. -/
abbrev castS (b : Fin 2) : DmaSem sig := ⟨25 + b.val, Nat.lt_of_lt_of_le (Nat.add_lt_add_left b.isLt 25) (by decide)⟩
/-- The semaphore of the transfers out of slot `b` of the second. -/
abbrev stageS (b : Fin 2) : DmaSem sig := ⟨27 + b.val, Nat.lt_of_lt_of_le (Nat.add_lt_add_left b.isLt 27) (by decide)⟩
/-- The semaphore of the transfers into the multiplier. -/
abbrev loadS : DmaSem sig := ⟨29, by decide⟩
/-- The semaphore of the transfers of result tiles. -/
abbrev storeS : DmaSem sig := ⟨30, by decide⟩

/-- A local semaphore's counter at zero. -/
abbrev zero (c : Dev nD) (q : DmaSem sig) : sProp 𝕄 := semVal ((c : Thread nD τ), SemLoc.dma q) 0

theorem lv_local (c : Dev nD) (q : DmaSem sig) (h : 25 ≤ q.val) : lv ((c : Thread nD τ), SemLoc.dma q) () ≤ 1 := by
  unfold lv kind
  dsimp only
  rw [dif_neg (by omega), dif_neg (by omega)]
  exact Nat.zero_le _

/-- Rows `[a, a+n)` of the device's rows of `x`. -/
def xPts (c : Dev nD) (a n : ℕ) (q : PosShare TreeShare) : sProp 𝕄 := xLoc c ↦[(rows 2048 8192 a n : Finset (Idx (xLoc c)))]{q} m (xLoc c)
/-- Slot `b` of the first double buffer. -/
def aPts (c : Dev nD) (b : Fin 2) (f : S2x128x8192.Idx → Elt F .f32) : sProp 𝕄 := aLoc c ↦[(slab b : Finset (Idx (aLoc c)))]{fullShare} f
/-- Slot `b` of the second double buffer. -/
def bPts (c : Dev nD) (b : Fin 2) (f : S2x128x8192.Idx → Elt F .bf16) : sProp 𝕄 := bLoc c ↦[(slab b : Finset (Idx (bLoc c)))]{fullShare} f
def aFree (c : Dev nD) (b : Fin 2) : sProp 𝕄 := iprop(∃ f, aPts (F := F) c b f)
def bFree (c : Dev nD) (b : Fin 2) : sProp 𝕄 := iprop(∃ f, bPts (F := F) c b f)
/-- 128 rows of the gathered copy, still free. -/
def gFree (c : Dev nD) (a n : ℕ) : sProp 𝕄 := iprop(∃ f, gPts (F := F) c a n fullShare f)

def creditA : ℕ := (slot aM ![0, 0, 0] inb_S2x128x8192_S1x128x8192_0_0_0).view.dmaCredit
def creditB : ℕ := credit 128 (by decide)
def creditT : ℕ := (tM : Memref sig .tc .vmem S256x8192 .bf16).view.dmaCredit
def creditY : ℕ := (oM.slice (Rect.unit (s := S8192x1024) ![0, 0] S256x1024.size (by decide)) (fun _ => rfl)).view.dmaCredit

theorem amount_creditT : (tM : Memref sig .tc .vmem S256x8192 .bf16).view.amount (.dma loadS) = creditT := by
  rw [View.amount_dma, creditT]
theorem creditA_pos : 0 < creditA := View.dmaCredit_pos _ (by decide)
theorem creditB_pos : 0 < creditB := View.dmaCredit_pos _ (by decide)
theorem creditT_pos : 0 < creditT := View.dmaCredit_pos _ (by decide)
theorem creditY_pos : 0 < creditY := View.dmaCredit_pos _ (by decide)

/-- Tile `t` of `x` on its way into slot `b`. -/
def flA (c : Dev nD) (b : Fin 2) (t : ℕ) : sProp 𝕄 := Flight EC (c : Thread nD τ) (.dma (castS b)) () creditA (aPts c b (atile m c t))
/-- Tile `t`, cast, on its way from slot `b` into the gathered copy. -/
def flB (c : Dev nD) (b : Fin 2) (t : ℕ) : sProp 𝕄 :=
  Flight EC (c : Thread nD τ) (.dma (stageS b)) () creditB iprop(gPts c (2048 * c.val + 128 * t) 128 fullShare (gathered m) ∗ bFree (F := F) c b)
/-- Tile `T` of gathered rows on its way into the multiplier. -/
def flT (c : Dev nD) (T : ℕ) : sProp 𝕄 := Flight EC (c : Thread nD τ) (.dma loadS) () creditT (tLoc c ↦{fullShare} gtile m T)
/-- Tile `T` of the result on its way out. -/
def flY (c : Dev nD) (T : ℕ) : sProp 𝕄 := Flight EC (c : Thread nD τ) (.dma storeS) () creditY
  iprop((oLoc c ↦[(rows 8192 1024 (256 * T) 256 : Finset (Idx (oLoc c)))]{fullShare} result m c) ∗ (∃ f : S256x1024.Idx → Elt F .f32, yLoc c ↦{fullShare} f))

section Steps
variable (c : Dev nD)

/-- The wait for a local transfer. -/
theorem wp_waitL {q : DmaSem sig} (hq : 25 ≤ q.val) {sm : DmaSem sig} (h1 : sm = q) (S : Finset (Fin 12)) {N : ℕ} {D : sProp 𝕄} {sp sp' : Space} {s s' : Shape} {e e' : EltTy}
    {srcw : Memref sig .tc sp' s' e'} {dstw : Memref sig .tc sp s e} (hN : dstw.view.dmaCredit = N)
    {hsrc : srcw.view.WordExact} {hdst : dstw.view.WordExact}
    {α : Type} {Q : α → sProp 𝕄} {k : PUnit → Prog (TpuEff nD τ sig (Elt F) Λ₀ .tc) α} :
    iprop(levAts L lv ∗ owesS c S ∗ Flight EC (c : Thread nD τ) (.dma q) () N D)
      ⊢ iprop(((owesS c S ∗ zero c q ∗ D) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) := by
  subst h1
  unfold owesS
  iintro ⟨#Hlev, ⟨%W, HO⟩, HF⟩ Hk
  iapply (wp_waitLocalO EC 𝒱₀ (c : Thread nD τ) none () hN (O := owed c S) (W := W)) $$ [HF HO]
  · isplitl [HF]; · iexact HF
    isplitl [HO]; · iexact HO
    iapply (mayWait_owed c (.dma sm) S (lv_local c sm hq)) $$ Hlev
  iintro ⟨HD, Hz, HO⟩
  iapply Hk
  isplitl [HO]; · iexists _; iexact HO
  isplitl [Hz]; · iexact Hz
  iexact HD

/-- The transfer of tile `t` of `x` into slot `b`. -/
theorem wp_castIn (b : Fin 2) (t : ℕ) (q : PosShare TreeShare) {off : Fin 2 → ℕ} (ho : off = ![128 * t, 0])
    {inb : ∀ k, off k + S128x8192.size k ≤ S2048x8192.size k} {boff : Fin 3 → ℕ} (hb : boff = ![b.val, 0, 0])
    {binb : ∀ k, boff k + S1x128x8192.size k ≤ S2x128x8192.size k} {sm : DmaSem sig} (h1 : sm = castS b)
    {hsrc : (xM.slice (Rect.unit (s := S2048x8192) off S128x8192.size inb) (fun _ => rfl)).view.WordExact} {hdst : (slot aM boff binb).view.WordExact}
    {hsem : DmaTarget.Typed (nD := nD) .hbm (.dma sm) (DmaTarget.here (p := (.tc : Proc τ)) (slot aM boff binb))}
    {α : Type} {Q : α → sProp 𝕄} {k : PUnit → Prog (TpuEff nD τ sig (Elt F) Λ₀ .tc) α} :
    iprop(xPts m c (128 * t) 128 q ∗ aFree c b ∗ zero c (castS b))
      ⊢ iprop((flA m c b t -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xM.slice (Rect.unit (s := S2048x8192) off S128x8192.size inb) (fun _ => rfl)) (DmaTarget.here (p := (.tc : Proc τ)) (slot aM boff binb)) (.dma sm) hsrc hdst hsem) k) Q) := by
  subst h1
  unfold xPts aFree aPts
  iintro ⟨Hx, ⟨%f, Ha⟩, Hz⟩ Hk
  have hset : (xM.slice (Rect.unit (s := S2048x8192) off S128x8192.size inb) (fun _ => rfl)).view.set = rows 2048 8192 (128 * t) 128 :=
    (View.set_slice_whole main_arg0 _).trans (rowRect_set ho rfl inb)
  iapply (wp_dmaLocal EC 𝒱₀ (c : Thread nD τ) none (src := xM.slice (Rect.unit (s := S2048x8192) off S128x8192.size inb) (fun _ => rfl)) (via := ReadAs.same)
    (dst := slot aM boff binb) (sm := .dma (castS b)) (q := q) (fs := m (xLoc c)) (Sd := slab b) (fd := f) () creditA rfl
    creditA_pos (slotA_set hb binb).subset) $$ [Hx Ha Hz]
  · isplitl [Hx]; · rw [hset]; iexact Hx
    isplitl [Ha]; · iexact Ha
    iexact Hz
  iintro HF
  iapply Hk
  unfold flA
  iapply (Flight_mono EC (c : Thread nD τ) _) $$ HF
  refine Entails.trans sep_elim_left (Entails.of_eq (pointsTo_congr fun i hi => ?_))
  exact castIn_value m c t ho inb hb binb f i hi

/-- The cast of slot `b`. -/
theorem wp_cast (b : Fin 2) (t : ℕ) {boff : Fin 3 → ℕ} (hb : boff = ![b.val, 0, 0])
    {binb : ∀ k, boff k + S1x128x8192.size k ≤ S2x128x8192.size k} {p : Vec F S1x128x8192 .f32 → FVec F S1x128x8192 .bf16} (hp : p = k0_pay1)
    {hla : (aM : Memref sig .tc .vmem S2x128x8192 .f32).view.LoadsAt (Rect.unit (s := S2x128x8192) boff S1x128x8192.size binb).toLoadRect}
    {hlb : (bM : Memref sig .tc .vmem S2x128x8192 .bf16).view.LoadsAt (Rect.unit (s := S2x128x8192) boff S1x128x8192.size binb).toLoadRect}
    {hst : ((bM : Memref sig .tc .vmem S2x128x8192 .bf16).access (Rect.unit (s := S2x128x8192) boff S1x128x8192.size binb)).Stores Finset.univ}
    {hm : (Finset.univ : Finset (Rect.unit (s := S2x128x8192) boff S1x128x8192.size binb).shape.Idx) = Finset.univ ∨ ∀ a, (Rect.unit (s := S2x128x8192) boff S1x128x8192.size binb).stride a = 1}
    {α : Type} {Q : α → sProp 𝕄} {k : PUnit → Prog (TpuEff nD τ sig (Elt F) Λ₀ .tc) α} :
    iprop(aPts c b (atile m c t) ∗ bFree c b)
      ⊢ iprop(((aFree c b ∗ bPts c b (btile m c t)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load aM (Rect.unit (s := S2x128x8192) boff S1x128x8192.size binb).toLoadRect hla) fun v =>
              .op (.load bM (Rect.unit (s := S2x128x8192) boff S1x128x8192.size binb).toLoadRect hlb) fun _ =>
                .op (.store bM (Rect.unit (s := S2x128x8192) boff S1x128x8192.size binb) (p v) Finset.univ hst hm) k) Q) := by
  subst hp
  unfold aPts bFree bPts
  iintro ⟨Ha, ⟨%f, Hb⟩⟩ Hk
  have hsetA : (aM.access (Rect.unit (s := S2x128x8192) boff S1x128x8192.size binb)).set ⊆ slab b :=
    ((View.set_slice_whole cc0_scratch0 _).trans (slabRect_set hb binb)).subset
  have hsetB : (bM.access (Rect.unit (s := S2x128x8192) boff S1x128x8192.size binb)).set ⊆ slab b :=
    ((View.set_slice_whole cc0_scratch1 _).trans (slabRect_set hb binb)).subset
  iapply (wp_load_rect 𝒱₀ (c : Thread nD τ) none Set.univ (m := aM) (r := Rect.unit (s := S2x128x8192) boff S1x128x8192.size binb) (S := slab b) hsetA) $$ Ha
  iintro Ha
  iapply (wp_load_rect 𝒱₀ (c : Thread nD τ) none Set.univ (m := bM) (r := Rect.unit (s := S2x128x8192) boff S1x128x8192.size binb) (S := slab b) hsetB) $$ Hb
  iintro Hb
  iapply (wp_store 𝒱₀ (c : Thread nD τ) none Set.univ (m := bM) (r := Rect.unit (s := S2x128x8192) boff S1x128x8192.size binb) (Mk := Finset.univ) (S := slab b) hsetB) $$ Hb
  iintro Hb
  iapply Hk
  isplitl [Ha]; · unfold aFree aPts; iexists (atile m c t); iexact Ha
  have hv : ((bM.access (Rect.unit (s := S2x128x8192) boff S1x128x8192.size binb)).loc (c : Thread nD τ) ↦[slab b]{fullShare}
      (bM.access (Rect.unit (s := S2x128x8192) boff S1x128x8192.size binb)).write (Elt F) f
        (k0_pay1 ((aM.access (Rect.unit (s := S2x128x8192) boff S1x128x8192.size binb)).read (Elt F) (atile m c t))) Finset.univ : sProp 𝕄)
      ⊢ bLoc c ↦[(slab b : Finset (Idx (bLoc c)))]{fullShare} btile m c t :=
    Entails.of_eq (pointsTo_congr fun i hi => castStore_value m c t hb binb f i hi)
  iapply hv $$ Hb

/-- The transfer of slot `b`, holding tile `t`, into the gathered copy. -/
theorem wp_stage (b : Fin 2) (t : ℕ) (ht : t < 16) {off : Fin 2 → ℕ} (ho : off = ![2048 * c.val + 128 * t, 0])
    {inb : ∀ k, off k + S128x8192.size k ≤ S8192x8192.size k} {boff : Fin 3 → ℕ} (hb : boff = ![b.val, 0, 0])
    {binb : ∀ k, boff k + S1x128x8192.size k ≤ S2x128x8192.size k} {sm : DmaSem sig} (h1 : sm = stageS b)
    {hsrc : (slot bM boff binb).view.WordExact} {hdst : (gM.slice (Rect.unit (s := S8192x8192) off S128x8192.size inb) (fun _ => rfl)).view.WordExact}
    {hsem : DmaTarget.Typed (nD := nD) .vmem (.dma sm) (DmaTarget.here (p := (.tc : Proc τ)) (gM.slice (Rect.unit (s := S8192x8192) off S128x8192.size inb) (fun _ => rfl)))}
    {α : Type} {Q : α → sProp 𝕄} {k : PUnit → Prog (TpuEff nD τ sig (Elt F) Λ₀ .tc) α} :
    iprop(bPts c b (btile m c t) ∗ gFree c (2048 * c.val + 128 * t) 128 ∗ zero c (stageS b))
      ⊢ iprop((flB m c b t -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (slot bM boff binb) (DmaTarget.here (p := (.tc : Proc τ)) (gM.slice (Rect.unit (s := S8192x8192) off S128x8192.size inb) (fun _ => rfl))) (.dma sm) hsrc hdst hsem) k) Q) := by
  subst h1
  unfold bPts gFree gPts
  iintro ⟨Hb, ⟨%f, Hg⟩, Hz⟩ Hk
  iapply (wp_dmaLocal EC 𝒱₀ (c : Thread nD τ) none (src := slot bM boff binb) (via := ReadAs.same)
    (dst := gM.slice (Rect.unit (s := S8192x8192) off S128x8192.size inb) (fun _ => rfl)) (sm := .dma (stageS b)) (q := fullShare) (fs := btile m c t)
    (Sd := rows 8192 8192 (2048 * c.val + 128 * t) 128) (fd := f) () creditB rfl
    creditB_pos (gWin_set ho rfl inb).subset) $$ [Hb Hg Hz]
  · isplitl [Hb]; · rw [slotB_set hb binb]; iexact Hb
    isplitl [Hg]; · iexact Hg
    iexact Hz
  iintro HF
  iapply Hk
  unfold flB
  iapply (Flight_mono EC (c : Thread nD τ) _) $$ HF
  refine BI.sep_mono (Entails.of_eq (pointsTo_congr fun i hi => ?_)) ?_
  · exact stage_value m c t ht ho inb hb binb f i hi
  · rw [slotB_set hb binb]
    exact exists_intro (Φ := fun f => bPts c b f) (btile m c t)

/-- The transfer of tile `T` of gathered rows into the multiplier. -/
theorem wp_loadTile (T : ℕ) {off : Fin 2 → ℕ} (ho : off = ![256 * T, 0])
    {inb : ∀ k, off k + S256x8192.size k ≤ S8192x8192.size k} {sm : DmaSem sig} (h1 : sm = loadS)
    {hsrc : (gM.slice (Rect.unit (s := S8192x8192) off S256x8192.size inb) (fun _ => rfl)).view.WordExact} {hdst : (tM : Memref sig .tc .vmem S256x8192 .bf16).view.WordExact}
    {hsem : DmaTarget.Typed (nD := nD) .hbm (.dma sm) (DmaTarget.here (p := (.tc : Proc τ)) tM)}
    {α : Type} {Q : α → sProp 𝕄} {k : PUnit → Prog (TpuEff nD τ sig (Elt F) Λ₀ .tc) α} :
    iprop((∃ q, gPts c (256 * T) 256 q (gathered m)) ∗ (∃ f : S256x8192.Idx → Elt F .bf16, tLoc c ↦{fullShare} f) ∗ zero c loadS)
      ⊢ iprop((flT m c T -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (gM.slice (Rect.unit (s := S8192x8192) off S256x8192.size inb) (fun _ => rfl)) (DmaTarget.here (p := (.tc : Proc τ)) tM) (.dma sm) hsrc hdst hsem) k) Q) := by
  subst h1
  unfold gPts
  iintro ⟨⟨%q, Hg⟩, ⟨%f, Ht⟩, Hz⟩ Hk
  iapply (wp_dmaLocal EC 𝒱₀ (c : Thread nD τ) none (src := gM.slice (Rect.unit (s := S8192x8192) off S256x8192.size inb) (fun _ => rfl)) (via := ReadAs.same)
    (dst := (tM : Memref sig .tc .vmem S256x8192 .bf16)) (sm := .dma loadS) (q := q) (fs := gathered m)
    (Sd := (tM : Memref sig .tc .vmem S256x8192 .bf16).view.set) (fd := f) () creditT amount_creditT
    creditT_pos subset_rfl) $$ [Hg Ht Hz]
  · isplitl [Hg]; · rw [gWin_set ho rfl inb]; iexact Hg
    isplitl [Ht]; · rw [View.set_whole]; iexact Ht
    iexact Hz
  iintro HF
  iapply Hk
  unfold flT
  iapply (Flight_mono EC (c : Thread nD τ) _) $$ HF
  rw [View.set_whole]
  refine Entails.trans sep_elim_left (Entails.of_eq (pointsTo_congr fun i hi => ?_))
  exact congrFun (load_value m T ho inb f) i

/-- The transfer of the result's tile `T` out. -/
theorem wp_outTile (T : ℕ) {off : Fin 2 → ℕ} (ho : off = ![256 * T, 0])
    {inb : ∀ k, off k + S256x1024.size k ≤ S8192x1024.size k} {sm : DmaSem sig} (h1 : sm = storeS)
    {hsrc : (yM : Memref sig .tc .vmem S256x1024 .f32).view.WordExact} {hdst : (oM.slice (Rect.unit (s := S8192x1024) off S256x1024.size inb) (fun _ => rfl)).view.WordExact}
    {hsem : DmaTarget.Typed (nD := nD) .vmem (.dma sm) (DmaTarget.here (p := (.tc : Proc τ)) (oM.slice (Rect.unit (s := S8192x1024) off S256x1024.size inb) (fun _ => rfl)))}
    {α : Type} {Q : α → sProp 𝕄} {k : PUnit → Prog (TpuEff nD τ sig (Elt F) Λ₀ .tc) α} :
    iprop((yLoc c ↦{fullShare} ytile m c T) ∗ (∃ f : S8192x1024.Idx → Elt F .f32, oLoc c ↦[(rows 8192 1024 (256 * T) 256 : Finset (Idx (oLoc c)))]{fullShare} f) ∗ zero c storeS)
      ⊢ iprop((flY m c T -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma yM (DmaTarget.here (p := (.tc : Proc τ)) (oM.slice (Rect.unit (s := S8192x1024) off S256x1024.size inb) (fun _ => rfl))) (.dma sm) hsrc hdst hsem) k) Q) := by
  subst h1
  iintro ⟨Hy, ⟨%f, Ho⟩, Hz⟩ Hk
  have hset : (oM.slice (Rect.unit (s := S8192x1024) off S256x1024.size inb) (fun _ => rfl)).view.set = rows 8192 1024 (256 * T) 256 :=
    (View.set_slice_whole main_v1_0 _).trans (rowRect_set ho rfl inb)
  iapply (wp_dmaLocal EC 𝒱₀ (c : Thread nD τ) none (src := (yM : Memref sig .tc .vmem S256x1024 .f32)) (via := ReadAs.same)
    (dst := oM.slice (Rect.unit (s := S8192x1024) off S256x1024.size inb) (fun _ => rfl)) (sm := .dma storeS) (q := fullShare) (fs := ytile m c T)
    (Sd := rows 8192 1024 (256 * T) 256) (fd := f) () creditY rfl
    creditY_pos hset.subset) $$ [Hy Ho Hz]
  · isplitl [Hy]; · rw [View.set_whole]; iexact Hy
    isplitl [Ho]; · iexact Ho
    iexact Hz
  iintro HF
  iapply Hk
  unfold flY
  iapply (Flight_mono EC (c : Thread nD τ) _) $$ HF
  refine BI.sep_mono (Entails.of_eq (pointsTo_congr fun i hi => ?_)) ?_
  · exact out_value m c T ho inb f i hi
  · rw [View.set_whole]
    exact exists_intro (Φ := fun f : S256x1024.Idx → Elt F .f32 => (yLoc c ↦{fullShare} f : sProp 𝕄)) (ytile m c T)

end Steps

end Cert.GatherMatmul

end
-- ==== Proof.Cast.lean ====
/-
# The cast of half of a device's rows

A device casts its 2048 rows of `x` in two halves of eight tiles of 128 rows. One trip of the loop casts two tiles, one
in each slot of the double buffers: while a tile is cast the next one is on its way in and the one before on its way out
to the gathered copy. Both loops are one program over the windows they name, and one invariant speaks of both.
-/
module

public import proofs.«01_k».proof.Proof.Local
public import Idealize.SL.BI.BigOpNat

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The program of one trip -/

/-- A window of 128 rows of `x`. -/
structure XWin where
  off : Fin 2 → ℕ
  inb : ∀ k, off k + S128x8192.size k ≤ S2048x8192.size k

/-- A window of 128 rows of the gathered copy. -/
structure GWin where
  off : Fin 2 → ℕ
  inb : ∀ k, off k + S128x8192.size k ≤ S8192x8192.size k
  exact : (gM.slice (Rect.unit (s := S8192x8192) off S128x8192.size inb) (fun _ => rfl)).view.WordExact

def XWin.mem (x : XWin) : Memref sig .tc .hbm S128x8192 .f32 := xM.slice (Rect.unit (s := S2048x8192) x.off S128x8192.size x.inb) (fun _ => rfl)
def GWin.mem (g : GWin) : Memref sig .tc .hbm S128x8192 .bf16 := gM.slice (Rect.unit (s := S8192x8192) g.off S128x8192.size g.inb) (fun _ => rfl)

/-- The corner of slot `b`. -/
def corner (b : Fin 2) : Fin 3 → ℕ := ![b.val, 0, 0]
theorem corner_inb (b : Fin 2) : ∀ k, corner b k + S1x128x8192.size k ≤ S2x128x8192.size k := by revert b; decide
theorem corner_exact (b : Fin 2) : (slot bM (corner b) (corner_inb b)).view.WordExact := by
  fin_cases b
  · exact (((Memref.isWhole_whole cc0_scratch1 : bM.IsWhole).wordExact_slice rfl _ wordsbf16_S2x128x8192_S1x128x8192_0_0_0).reshape _ _)
  · exact (((Memref.isWhole_whole cc0_scratch1 : bM.IsWhole).wordExact_slice rfl _ wordsbf16_S2x128x8192_S1x128x8192_1_0_0).reshape _ _)
theorem corner_packed (b : Fin 2) : (bM.access (Rect.unit (s := S2x128x8192) (corner b) S1x128x8192.size (corner_inb b))).Stores Finset.univ := by
  fin_cases b
  · exact View.stores_vmem h_S1x128x8192 ((Memref.isWhole_whole cc0_scratch1 : bM.IsWhole).storeExact_slice rfl _ packedbf16_S2x128x8192_S1x128x8192_0_0_0) (fun _ => rfl)
  · exact View.stores_vmem h_S1x128x8192 ((Memref.isWhole_whole cc0_scratch1 : bM.IsWhole).storeExact_slice rfl _ packedbf16_S2x128x8192_S1x128x8192_1_0_0) (fun _ => rfl)

/-- The transfer of rows of `x` into slot `b`. -/
def pCastIn (b : Fin 2) (x : XWin) : Prog (TpuEff nD τ sig (Elt F) Λ₀ .tc) PUnit :=
  Prog.lift (.enqueueDma x.mem (.here (slot aM (corner b) (corner_inb b))) (.dma (castS b)) (View.wordExact_bits rfl) ((View.wordExact_bits rfl).reshape _ _) ⟨Or.inl rfl, trivial⟩)
/-- The wait for it. -/
def pCastWait (b : Fin 2) (x : XWin) : Prog (TpuEff nD τ sig (Elt F) Λ₀ .tc) PUnit :=
  Prog.lift (.waitDma2 (castS b) x.mem (slot aM (corner b) (corner_inb b)) (View.wordExact_bits rfl) ((View.wordExact_bits rfl).reshape _ _))
/-- The cast of slot `b`. -/
def pCast (b : Fin 2) : Prog (TpuEff nD τ sig (Elt F) Λ₀ .tc) PUnit := do
  let v ← Prog.lift (.load aM (Rect.unit (s := S2x128x8192) (corner b) S1x128x8192.size (corner_inb b)).toLoadRect (View.loadsAt_vmem h_S1x128x8192))
  let _ ← Prog.lift (.load bM (Rect.unit (s := S2x128x8192) (corner b) S1x128x8192.size (corner_inb b)).toLoadRect (View.loadsAt_vmem h_S1x128x8192))
  Prog.lift (.store bM (Rect.unit (s := S2x128x8192) (corner b) S1x128x8192.size (corner_inb b)) (k0_pay1 v) Finset.univ (corner_packed b) (.inl rfl))
/-- The transfer of slot `b` into the gathered copy. -/
def pStage (b : Fin 2) (g : GWin) : Prog (TpuEff nD τ sig (Elt F) Λ₀ .tc) PUnit :=
  Prog.lift (.enqueueDma (slot bM (corner b) (corner_inb b)) (.here g.mem) (.dma (stageS b)) (corner_exact b) g.exact ⟨Or.inl rfl, trivial⟩)
/-- The wait for it. -/
def pStageWait (b : Fin 2) (g : GWin) : Prog (TpuEff nD τ sig (Elt F) Λ₀ .tc) PUnit :=
  Prog.lift (.waitDma2 (stageS b) (slot bM (corner b) (corner_inb b)) g.mem (corner_exact b) g.exact)

/-- A step taken under a condition. -/
def pWhen (p : Prop) [Decidable p] (a : p → Prog (TpuEff nD τ sig (Elt F) Λ₀ .tc) PUnit) : Prog (TpuEff nD τ sig (Elt F) Λ₀ .tc) PUnit := if h : p then a h else pure ⟨⟩

/-- One trip: the tile on its way into slot 0 arrives, the next starts for slot 1, slot 0 is cast once its last tile is
    out and starts its way out; then the same for slot 1. -/
def castTrip {p1 p2 p3 : Prop} [Decidable p1] [Decidable p2] [Decidable p3]
    (x0 x1 : XWin) (x2 : p2 → XWin) (g0 : p1 → GWin) (g1 : GWin) (g2 : p3 → GWin) (g3 : GWin) : Prog (TpuEff nD τ sig (Elt F) Λ₀ .tc) PUnit := do
  pCastWait 0 x0
  pCastIn 1 x1
  pWhen p1 fun h => pStageWait 0 (g0 h)
  pCast 0
  pStage 0 g1
  pCastWait 1 x1
  pWhen p2 fun h => pCastIn 0 (x2 h)
  pWhen p3 fun h => pStageWait 1 (g2 h)
  pCast 1
  pStage 1 g3

/-- A trip of the first loop is this program over the windows it names. -/
theorem t1_body_eq (a1 : Memref sig .tc .vmem S8192x1024 .bf16) (h0 : xM.IsWhole) (h1 : a1.IsWhole) (h2 : oM.IsWhole) (h3 : gM.IsWhole) (h4 : aM.IsWhole) (h5 : bM.IsWhole)
    (h6 : tM.IsWhole) (h7 : yM.IsWhole) (c : Dev nD) (v10 v11 v12 v13 : BitVec 32) (k : Fin k0_t1_loop.trips) (u : Unit) :
    k0_t1_body (F := F) xM h0 a1 h1 oM h2 gM h3 aM h4 bM h5 tM h6 yM h7 cc0_scratch4 cc0_scratch5 cc0_scratch6 cc0_scratch7 cc0_scratch8 cc0_scratch9 c v10 v11 v12 v13 k u
      = castTrip (p1 := k0_cond1 k = 1#1) (p2 := k0_cond2 k = 1#1) (p3 := k0_cond3 k = 1#1)
          ⟨k0_off1 k, k0_off1_inb k⟩ ⟨k0_off2 k, k0_off2_inb k⟩ (fun h => ⟨k0_off5 k, k0_off5_inb k h⟩)
          (fun h => ⟨k0_off3 c k, k0_off3_inb c k h, h3.wordExact_slice rfl _ (k0_off3_wordsbf16 c k h)⟩)
          ⟨k0_off4 c k, k0_off4_inb c k, h3.wordExact_slice rfl _ (k0_off4_wordsbf16 c k)⟩
          (fun h => ⟨k0_off6 c k, k0_off6_inb c k h, h3.wordExact_slice rfl _ (k0_off6_wordsbf16 c k h)⟩)
          ⟨k0_off7 c k, k0_off7_inb c k, h3.wordExact_slice rfl _ (k0_off7_wordsbf16 c k)⟩ := by
  unfold k0_t1_body
  simp only [k0_part1_eq_skeleton, k0_part2_eq_skeleton]
  unfold k0_part1_skel k0_part2_skel castTrip pCast pWhen
  by_cases e1 : k0_cond1 k = 1#1 <;> by_cases e2 : k0_cond2 k = 1#1 <;> by_cases e3 : k0_cond3 k = 1#1 <;>
    simp only [e1, e2, e3, dite_true, dite_false, pCastWait, pCastIn, pStageWait, pStage, Prog.lift, Prog.bind_op, Prog.bind_ret, Prog.pure_eq_ret, Prog.bind_assoc] <;> rfl

/-- A trip of the second loop is this program over the windows it names. -/
theorem t2_body_eq (a1 : Memref sig .tc .vmem S8192x1024 .bf16) (h0 : xM.IsWhole) (h1 : a1.IsWhole) (h2 : oM.IsWhole) (h3 : gM.IsWhole) (h4 : aM.IsWhole) (h5 : bM.IsWhole)
    (h6 : tM.IsWhole) (h7 : yM.IsWhole) (c : Dev nD) (v7 v10 v53 : BitVec 32) (k : Fin k0_t2_loop.trips) (u : Unit) :
    k0_t2_body (F := F) xM h0 a1 h1 oM h2 gM h3 aM h4 bM h5 tM h6 yM h7 cc0_scratch4 cc0_scratch5 cc0_scratch6 cc0_scratch7 cc0_scratch8 cc0_scratch9 c v7 v10 v53 k u
      = castTrip (p1 := k0_cond4 k = 1#1) (p2 := k0_cond5 k = 1#1) (p3 := k0_cond6 k = 1#1)
          ⟨k0_off10 k, k0_off10_inb k⟩ ⟨k0_off11 k, k0_off11_inb k⟩ (fun h => ⟨k0_off14 k, k0_off14_inb k h⟩)
          (fun h => ⟨k0_off12 c k, k0_off12_inb c k h, h3.wordExact_slice rfl _ (k0_off12_wordsbf16 c k h)⟩)
          ⟨k0_off13 c k, k0_off13_inb c k, h3.wordExact_slice rfl _ (k0_off13_wordsbf16 c k)⟩
          (fun h => ⟨k0_off15 c k, k0_off15_inb c k h, h3.wordExact_slice rfl _ (k0_off15_wordsbf16 c k h)⟩)
          ⟨k0_off16 c k, k0_off16_inb c k, h3.wordExact_slice rfl _ (k0_off16_wordsbf16 c k)⟩ := by
  unfold k0_t2_body
  simp only [k0_part3_eq_skeleton, k0_part4_eq_skeleton]
  unfold k0_part3_skel k0_part4_skel castTrip pCast pWhen
  by_cases e1 : k0_cond4 k = 1#1 <;> by_cases e2 : k0_cond5 k = 1#1 <;> by_cases e3 : k0_cond6 k = 1#1 <;>
    simp only [e1, e2, e3, dite_true, dite_false, pCastWait, pCastIn, pStageWait, pStage, Prog.lift, Prog.bind_op, Prog.bind_ret, Prog.pure_eq_ret, Prog.bind_assoc] <;> rfl

/-! ## The steps of a trip -/

variable (m : (ℓ : Loc nD τ sig) → Buf (Elt F) ℓ) (c : Dev nD)

/-- The triple of a step: from `R` the step runs, and its continuation runs from `R'`. -/
def Runs (p : Prog (TpuEff nD τ sig (Elt F) Λ₀ .tc) PUnit) (R R' : sProp 𝕄) : Prop :=
  ∀ Q : PUnit → sProp 𝕄, R ⊢ iprop((R' -∗ Q ⟨⟩) -∗ wp frame (wpE (defs₀ (F := F)) 𝒱₀ (c : Thread nD τ) none) Set.univ p Q)

theorem Runs.whenever {p : Prop} [Decidable p] {a : p → Prog (TpuEff nD τ sig (Elt F) Λ₀ .tc) PUnit} {R R' : sProp 𝕄}
    (hA : ∀ h, Runs c (a h) R R') (hB : ¬p → R ⊢ R') : Runs c (pWhen p a) R R' := by
  intro Q
  unfold pWhen
  split
  · exact hA _ Q
  · next h =>
    iintro HR Hk
    rw [Prog.pure_eq_ret, wp_ret]
    imodintro
    iapply Hk
    iapply (hB h) $$ HR

theorem runs_castIn (b : Fin 2) (t : ℕ) (q : PosShare TreeShare) (x : XWin) (hx : x.off = ![128 * t, 0]) :
    Runs c (pCastIn b x) iprop(xPts m c (128 * t) 128 q ∗ aFree c b ∗ zero c (castS b)) (flA m c b t) := by
  intro Q
  iintro H Hk
  unfold pCastIn Prog.lift
  iapply (wp_castIn m c b t q hx rfl rfl) $$ H
  iintro HF
  rw [wp_ret]; imodintro
  iapply Hk $$ HF

theorem runs_castWait (S : Finset (Fin 12)) (b : Fin 2) (t : ℕ) (x : XWin) :
    Runs c (pCastWait b x) iprop(levAts L lv ∗ owesS c S ∗ flA m c b t) iprop(owesS c S ∗ zero c (castS b) ∗ aPts c b (atile m c t)) := by
  intro Q
  iintro H Hk
  unfold pCastWait Prog.lift flA
  iapply (wp_waitL c (q := castS b) (Nat.le_add_right 25 _) rfl S (N := creditA) (dstw := slot aM (corner b) (corner_inb b)) rfl) $$ H
  iintro HF
  rw [wp_ret]; imodintro
  iapply Hk $$ HF

theorem runs_cast (b : Fin 2) (t : ℕ) :
    Runs c (pCast b) iprop(aPts c b (atile m c t) ∗ bFree c b) iprop(aFree c b ∗ bPts c b (btile m c t)) := by
  intro Q
  iintro H Hk
  unfold pCast Prog.lift
  simp only [Prog.bind_op, Prog.bind_ret]
  iapply (wp_cast m c b t rfl rfl) $$ H
  iintro HF
  rw [wp_ret]; imodintro
  iapply Hk $$ HF

theorem runs_stage (b : Fin 2) (t : ℕ) (ht : t < 16) (g : GWin) (hg : g.off = ![2048 * c.val + 128 * t, 0]) :
    Runs c (pStage b g) iprop(bPts c b (btile m c t) ∗ gFree c (2048 * c.val + 128 * t) 128 ∗ zero c (stageS b)) (flB m c b t) := by
  intro Q
  iintro H Hk
  unfold pStage Prog.lift
  iapply (wp_stage m c b t ht hg rfl rfl) $$ H
  iintro HF
  rw [wp_ret]; imodintro
  iapply Hk $$ HF

theorem runs_stageWait (S : Finset (Fin 12)) (b : Fin 2) (t : ℕ) (g : GWin) :
    Runs c (pStageWait b g) iprop(levAts L lv ∗ owesS c S ∗ flB m c b t)
      iprop(owesS c S ∗ zero c (stageS b) ∗ gPts c (2048 * c.val + 128 * t) 128 fullShare (gathered m) ∗ bFree c b) := by
  intro Q
  iintro H Hk
  unfold pStageWait Prog.lift flB
  iapply (wp_waitL c (q := stageS b) (by show 25 ≤ 27 + b.val; omega) rfl S (N := creditB) (srcw := slot bM (corner b) (corner_inb b)) (dstw := g.mem) rfl (hsrc := corner_exact b) (hdst := g.exact)) $$ H
  iintro HF
  rw [wp_ret]; imodintro
  iapply Hk $$ HF

/-! ## One trip -/

/-- The tiles of the half from `base` that have arrived in the gathered copy: the first `n`. -/
def arrived (base n : ℕ) : sProp 𝕄 := bigSep (Finset.range n) fun t => gPts c (2048 * c.val + 128 * (base + t)) 128 fullShare (gathered m)
/-- The places of the half's tiles from the `n`th on, still free. -/
def places (base n : ℕ) : sProp 𝕄 := bigSep (Finset.Ico n 8) fun t => gFree (F := F) c (2048 * c.val + 128 * (base + t)) 128
/-- The half's tiles of `x` from the `n`th on. -/
def tilesX (q : PosShare TreeShare) (base n : ℕ) : sProp 𝕄 := bigSep (Finset.Ico n 8) fun t => xPts m c (128 * (base + t)) 128 q
/-- Slot `b` of the second double buffer before trip `k`: a tile on its way out, but free before the first trip. -/
def outSlot (base : ℕ) (b : Fin 2) (k : ℕ) : sProp 𝕄 :=
  if k = 0 then iprop(zero c (stageS b) ∗ bFree (F := F) c b) else flB m c b (base + (2 * (k - 1) + b.val))
/-- Slot 0 of the first double buffer before trip `k`: the trip's first tile on its way in, but free after the last. -/
def inSlot (q : PosShare TreeShare) (base k : ℕ) : sProp 𝕄 :=
  if k < 4 then iprop(flA m c 0 (base + 2 * k) ∗ tilesX m c q base (2 * k + 1)) else iprop(aFree (F := F) c 0 ∗ zero c (castS 0))

/-- What a device holds before trip `k`, apart from what it owes. -/
def castInv (q : PosShare TreeShare) (base k : ℕ) : sProp 𝕄 :=
  iprop(inSlot m c q base k ∗ aFree c 1 ∗ zero c (castS 1) ∗ outSlot m c base 0 k ∗ outSlot m c base 1 k ∗ arrived m c base (2 * k - 2) ∗ places c base (2 * k))

theorem outSlot_wait (S : Finset (Fin 12)) (base : ℕ) (b : Fin 2) (k : ℕ) {p : Prop} [Decidable p] (hp : p ↔ 0 < k) (g : p → GWin) :
    Runs c (pWhen p fun h => pStageWait b (g h))
      iprop(levAts L lv ∗ owesS c S ∗ outSlot m c base b k ∗ arrived m c base (2 * k - (2 - b.val)))
      iprop(owesS c S ∗ zero c (stageS b) ∗ bFree c b ∗ arrived m c base (2 * k - (1 - b.val))) := by
  refine Runs.whenever c (fun h Q => ?_) (fun h => ?_)
  · have hk : 0 < k := hp.1 h
    unfold outSlot
    rw [if_neg (by omega)]
    iintro ⟨#Hl, HO, HF, Ha⟩ Hk
    iapply (runs_stageWait m c S b _ (g h) Q) $$ [HO HF]
    · isplitr; · iexact Hl
      isplitl [HO]; · iexact HO
      iexact HF
    iintro ⟨HO, Hz, Hg, Hb⟩
    iapply Hk
    isplitl [HO]; · iexact HO
    isplitl [Hz]; · iexact Hz
    isplitl [Hb]; · iexact Hb
    unfold arrived
    have hb := b.isLt
    rw [show 2 * k - (1 - b.val) = (2 * k - (2 - b.val)) + 1 by omega, Finset.range_eq_Ico, Finset.range_eq_Ico, BI.bigSep_Ico_succ_top (Nat.zero_le _),
      show 2 * k - (2 - b.val) = 2 * (k - 1) + b.val by omega]
    isplitl [Hg]; · iexact Hg
    iexact Ha
  · have hk : k = 0 := Nat.eq_zero_of_not_pos fun h' => h (hp.2 h')
    subst hk
    unfold outSlot
    rw [if_pos rfl, Nat.mul_zero, Nat.zero_sub, Nat.zero_sub]
    iintro ⟨-, HO, ⟨Hz, Hb⟩, Ha⟩
    isplitl [HO]; · iexact HO
    isplitl [Hz]; · iexact Hz
    isplitl [Hb]; · iexact Hb
    iexact Ha

theorem inSlot_next (q : PosShare TreeShare) (base k : ℕ) (hk : k < 4) {p : Prop} [Decidable p] (hp : p ↔ k < 3) (x : p → XWin)
    (hx : ∀ h, (x h).off = ![128 * (base + 2 * (k + 1)), 0]) :
    Runs c (pWhen p fun h => pCastIn 0 (x h)) iprop(tilesX m c q base (2 * k + 2) ∗ aFree c 0 ∗ zero c (castS 0)) (inSlot m c q base (k + 1)) := by
  refine Runs.whenever c (fun h Q => ?_) (fun h => ?_)
  · have hk : k < 3 := hp.1 h
    unfold inSlot tilesX
    rw [if_pos (by omega), BI.bigSep_Ico_succ_bot (show 2 * k + 2 < 8 by omega)]
    iintro ⟨⟨Hx, Hxs⟩, Ha, Hz⟩ Hk
    iapply (runs_castIn m c 0 (base + 2 * (k + 1)) q (x h) (hx h) Q) $$ [Hx Ha Hz]
    · isplitl [Hx]; · iexact Hx
      isplitl [Ha]; · iexact Ha
      iexact Hz
    iintro HF
    iapply Hk
    isplitl [HF]; · iexact HF
    iexact Hxs
  · unfold inSlot
    rw [if_neg (fun h' => h (hp.2 (by omega)))]
    iintro ⟨-, Ha, Hz⟩
    isplitl [Ha]; · iexact Ha
    iexact Hz

/-- One trip takes the invariant to the next trip's. -/
theorem castTrip_runs (S : Finset (Fin 12)) (q : PosShare TreeShare) (base k : ℕ) (hb : base + 8 ≤ 16) (hk : k < 4)
    {p1 p2 p3 : Prop} [Decidable p1] [Decidable p2] [Decidable p3] (hp1 : p1 ↔ 0 < k) (hp2 : p2 ↔ k < 3) (hp3 : p3 ↔ 0 < k)
    (x0 x1 : XWin) (x2 : p2 → XWin) (g0 : p1 → GWin) (g1 : GWin) (g2 : p3 → GWin) (g3 : GWin)
    (hx1 : x1.off = ![128 * (base + (2 * k + 1)), 0]) (hx2 : ∀ h, (x2 h).off = ![128 * (base + 2 * (k + 1)), 0])
    (hg1 : g1.off = ![2048 * c.val + 128 * (base + 2 * k), 0]) (hg3 : g3.off = ![2048 * c.val + 128 * (base + (2 * k + 1)), 0]) :
    Runs c (castTrip x0 x1 x2 g0 g1 g2 g3) iprop(levAts L lv ∗ owesS c S ∗ castInv m c q base k) iprop(owesS c S ∗ castInv m c q base (k + 1)) := by
  intro Q
  unfold castTrip
  simp only [wp_bind]
  iintro ⟨#Hl, HO, HI⟩ Hk
  unfold castInv
  icases HI with ⟨Hin, Ha1, Hz1, Ho0, Ho1, Har, Hpl⟩
  ihave Hin := (show inSlot m c q base k ⊢ iprop(flA m c 0 (base + 2 * k) ∗ tilesX m c q base (2 * k + 1)) from Entails.of_eq (if_pos hk)) $$ Hin
  icases Hin with ⟨HF, Hxs⟩
  iapply (runs_castWait m c S 0 (base + 2 * k) x0 _) $$ [HO HF]
  · isplitr; · iexact Hl
    isplitl [HO]; · iexact HO
    iexact HF
  iintro ⟨HO, Hz0, Ha0⟩
  ihave Hxs := (show tilesX m c q base (2 * k + 1) ⊢ iprop(xPts m c (128 * (base + (2 * k + 1))) 128 q ∗ tilesX m c q base (2 * k + 2)) from by
    unfold tilesX; rw [BI.bigSep_Ico_succ_bot (show 2 * k + 1 < 8 by omega)]) $$ Hxs
  icases Hxs with ⟨Hx, Hxs⟩
  iapply (runs_castIn m c 1 (base + (2 * k + 1)) q x1 hx1 _) $$ [Hx Ha1 Hz1]
  · isplitl [Hx]; · iexact Hx
    isplitl [Ha1]; · iexact Ha1
    iexact Hz1
  iintro HF1
  iapply (outSlot_wait m c S base 0 k hp1 g0 _) $$ [HO Ho0 Har]
  · isplitr; · iexact Hl
    isplitl [HO]; · iexact HO
    isplitl [Ho0]; · iexact Ho0
    iexact Har
  iintro ⟨HO, Hs0, Hb0, Har⟩
  iapply (runs_cast m c 0 (base + 2 * k) _) $$ [Ha0 Hb0]
  · isplitl [Ha0]; · iexact Ha0
    iexact Hb0
  iintro ⟨Ha0, Hb0⟩
  ihave Hpl := (show places c base (2 * k) ⊢ iprop(gFree (F := F) c (2048 * c.val + 128 * (base + 2 * k)) 128
      ∗ gFree (F := F) c (2048 * c.val + 128 * (base + (2 * k + 1))) 128 ∗ places c base (2 * (k + 1))) from by
    unfold places; rw [BI.bigSep_Ico_succ_bot (show 2 * k < 8 by omega), BI.bigSep_Ico_succ_bot (show 2 * k + 1 < 8 by omega)]; exact .rfl) $$ Hpl
  icases Hpl with ⟨Hg0, Hg1, Hpl⟩
  iapply (runs_stage m c 0 (base + 2 * k) (by omega) g1 hg1 _) $$ [Hb0 Hg0 Hs0]
  · isplitl [Hb0]; · iexact Hb0
    isplitl [Hg0]; · iexact Hg0
    iexact Hs0
  iintro Ho0
  iapply (runs_castWait m c S 1 (base + (2 * k + 1)) x1 _) $$ [HO HF1]
  · isplitr; · iexact Hl
    isplitl [HO]; · iexact HO
    iexact HF1
  iintro ⟨HO, Hz1, Ha1⟩
  iapply (inSlot_next m c q base k hk hp2 x2 hx2 _) $$ [Hxs Ha0 Hz0]
  · isplitl [Hxs]; · iexact Hxs
    isplitl [Ha0]; · iexact Ha0
    iexact Hz0
  iintro Hin
  iapply (outSlot_wait m c S base 1 k hp3 g2 _) $$ [HO Ho1 Har]
  · isplitr; · iexact Hl
    isplitl [HO]; · iexact HO
    isplitl [Ho1]; · iexact Ho1
    iexact Har
  iintro ⟨HO, Hs1, Hb1, Har⟩
  iapply (runs_cast m c 1 (base + (2 * k + 1)) _) $$ [Ha1 Hb1]
  · isplitl [Ha1]; · iexact Ha1
    iexact Hb1
  iintro ⟨Ha1, Hb1⟩
  iapply (runs_stage m c 1 (base + (2 * k + 1)) (by omega) g3 hg3 _) $$ [Hb1 Hg1 Hs1]
  · isplitl [Hb1]; · iexact Hb1
    isplitl [Hg1]; · iexact Hg1
    iexact Hs1
  iintro Ho1
  iapply Hk
  isplitl [HO]; · iexact HO
  isplitl [Hin]; · iexact Hin
  isplitl [Ha1]; · iexact Ha1
  isplitl [Hz1]; · iexact Hz1
  isplitl [Ho0]; · unfold outSlot; rw [if_neg (Nat.succ_ne_zero k)]; iexact Ho0
  isplitl [Ho1]; · unfold outSlot; rw [if_neg (Nat.succ_ne_zero k)]; iexact Ho1
  isplitl [Har]; · iexact Har
  iexact Hpl

/-! ## The loops -/

theorem row_eq {a b : ℕ} (h : a = b) : (![a, 0] : Fin 2 → ℕ) = ![b, 0] := by rw [h]

/-- The first loop casts the first half of the device's rows. -/
theorem t1_runs (a1 : Memref sig .tc .vmem S8192x1024 .bf16) (h0 : xM.IsWhole) (h1 : a1.IsWhole) (h2 : oM.IsWhole) (h3 : gM.IsWhole) (h4 : aM.IsWhole) (h5 : bM.IsWhole)
    (h6 : tM.IsWhole) (h7 : yM.IsWhole) (v10 v11 v12 v13 : BitVec 32) (S : Finset (Fin 12)) (q : PosShare TreeShare) :
    Runs c (Scf.Loop.for k0_t1_loop k0_t1_ok ⟨⟩ (k0_t1_body (F := F) xM h0 a1 h1 oM h2 gM h3 aM h4 bM h5 tM h6 yM h7
        cc0_scratch4 cc0_scratch5 cc0_scratch6 cc0_scratch7 cc0_scratch8 cc0_scratch9 c v10 v11 v12 v13))
      iprop(levAts L lv ∗ owesS c S ∗ castInv m c q 0 0) iprop(owesS c S ∗ castInv m c q 0 4) := by
  intro Q
  iintro H Hk
  iapply (Scf.wp_for frame (wpE (defs₀ (F := F)) 𝒱₀ (c : Thread nD τ) none) Set.univ _ _ _ k0_t1_ok ⟨⟩ _
    (fun k _ => iprop(levAts L lv ∗ owesS c S ∗ castInv m c q 0 k)) (fun k u => ?_))
  · rw [t1_body_eq]
    have hk : k.val < 4 := k.isLt
    have e1 : k0_cond1 k = 1#1 ↔ 0 < k.val := by revert k; decide
    have e2 : k0_cond2 k = 1#1 ↔ k.val < 3 := by revert k; decide
    have e3 : k0_cond3 k = 1#1 ↔ 0 < k.val := by revert k; decide
    iintro ⟨#Hl, H⟩
    iapply (castTrip_runs m c S q 0 k.val (by omega) hk e1 e2 e3 _ _ _ _ _ _ _
      ((k0_off2_eq k).trans (row_eq (by omega))) (fun h => (k0_off5_eq k).trans (row_eq (by omega)))
      ((k0_off4_eq c k).trans (row_eq (by omega))) ((k0_off7_eq c k).trans (row_eq (by omega))) _) $$ [H]
    · isplitr; · iexact Hl
      iexact H
    iintro H
    isplitr; · iexact Hl
    iexact H
  · isplitl [H]; · iexact H
    iintro %u ⟨-, H⟩
    iapply Hk
    iexact H

/-- The second loop casts the second half. -/
theorem t2_runs (a1 : Memref sig .tc .vmem S8192x1024 .bf16) (h0 : xM.IsWhole) (h1 : a1.IsWhole) (h2 : oM.IsWhole) (h3 : gM.IsWhole) (h4 : aM.IsWhole) (h5 : bM.IsWhole)
    (h6 : tM.IsWhole) (h7 : yM.IsWhole) (v7 v10 v53 : BitVec 32) (S : Finset (Fin 12)) (q : PosShare TreeShare) :
    Runs c (Scf.Loop.for k0_t2_loop k0_t2_ok ⟨⟩ (k0_t2_body (F := F) xM h0 a1 h1 oM h2 gM h3 aM h4 bM h5 tM h6 yM h7
        cc0_scratch4 cc0_scratch5 cc0_scratch6 cc0_scratch7 cc0_scratch8 cc0_scratch9 c v7 v10 v53))
      iprop(levAts L lv ∗ owesS c S ∗ castInv m c q 8 0) iprop(owesS c S ∗ castInv m c q 8 4) := by
  intro Q
  iintro H Hk
  iapply (Scf.wp_for frame (wpE (defs₀ (F := F)) 𝒱₀ (c : Thread nD τ) none) Set.univ _ _ _ k0_t2_ok ⟨⟩ _
    (fun k _ => iprop(levAts L lv ∗ owesS c S ∗ castInv m c q 8 k)) (fun k u => ?_))
  · rw [t2_body_eq]
    have hk : k.val < 4 := k.isLt
    have e1 : k0_cond4 k = 1#1 ↔ 0 < k.val := by revert k; decide
    have e2 : k0_cond5 k = 1#1 ↔ k.val < 3 := by revert k; decide
    have e3 : k0_cond6 k = 1#1 ↔ 0 < k.val := by revert k; decide
    iintro ⟨#Hl, H⟩
    iapply (castTrip_runs m c S q 8 k.val (by omega) hk e1 e2 e3 _ _ _ _ _ _ _
      ((k0_off11_eq k).trans (row_eq (by omega))) (fun h => (k0_off14_eq k).trans (row_eq (by omega)))
      ((k0_off13_eq c k).trans (row_eq (by omega))) ((k0_off16_eq c k).trans (row_eq (by omega))) _) $$ [H]
    · isplitr; · iexact Hl
      iexact H
    iintro H
    isplitr; · iexact Hl
    iexact H
  · isplitl [H]; · iexact H
    iintro %u ⟨-, H⟩
    iapply Hk
    iexact H

end Cert.GatherMatmul

end
-- ==== Proof.Trip.lean ====
/-
# The program of one trip of the multiplying loop

A trip first takes what its number calls for from the neighbours (trip 8 also starts the second set of transfers), then
brings one tile of gathered rows in, multiplies it and sends the result's tile out.
-/
module

public import proofs.«01_k».proof.Proof.Cast

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Windows and steps -/

/-- A window of `n` rows of the gathered copy. -/
structure CWin (n : ℕ) where
  off : Fin 2 → ℕ
  inb : ∀ k, off k + (![n, 8192] : Fin 2 → ℕ) k ≤ S8192x8192.size k
  words : (Rect.unit (s := S8192x8192) off ![n, 8192] inb).WholeWords (EltTy.packing .bf16)

def CWin.mem {n : ℕ} (w : CWin n) : Memref sig .tc .hbm ⟨2, ![n, 8192]⟩ .bf16 := gM.slice (Rect.unit (s := S8192x8192) w.off ![n, 8192] w.inb) (fun _ => rfl)
theorem CWin.exact {n : ℕ} (w : CWin n) : w.mem.view.WordExact := (Memref.isWhole_whole main_v1_1 : gM.IsWhole).wordExact_slice rfl _ w.words

/-- The start of transfer `s` to device `d`, over the same window at both ends. -/
def pSend {n : ℕ} (s : Fin 12) (d : Dev nD) (w : CWin n) : Prog (TpuEff nD τ sig (Elt F) Λ₀ .tc) PUnit :=
  Prog.lift (.enqueueDma w.mem (.remote (Dev.tc d) w.mem (.dma (sendS s))) (.dma (recvS s)) w.exact w.exact ⟨⟨rfl, Or.inl rfl⟩, trivial⟩)
/-- The wait for the arrival of transfer `s`. -/
def pRecv {n : ℕ} (s : Fin 12) (w : CWin n) : Prog (TpuEff nD τ sig (Elt F) Λ₀ .tc) PUnit := Prog.lift (.waitDma2 (recvS s) w.mem w.mem w.exact w.exact)
/-- The wait for the departure of transfer `s`. -/
def pSendWait {n : ℕ} (s : Fin 12) (w : CWin n) : Prog (TpuEff nD τ sig (Elt F) Λ₀ .tc) PUnit := Prog.lift (.waitDma2 (sendS s) w.mem w.mem w.exact w.exact)

/-- A window of 256 rows of the result. -/
structure OWin where
  off : Fin 2 → ℕ
  inb : ∀ k, off k + S256x1024.size k ≤ S8192x1024.size k
def OWin.mem (o : OWin) : Memref sig .tc .hbm S256x1024 .f32 := oM.slice (Rect.unit (s := S8192x1024) o.off S256x1024.size o.inb) (fun _ => rfl)

/-- A tile of gathered rows comes in. -/
def pLoadTile (w : CWin 256) : Prog (TpuEff nD τ sig (Elt F) Λ₀ .tc) PUnit := do
  Prog.lift (.enqueueDma w.mem (.here tM) (.dma loadS) w.exact (Memref.isWhole_whole cc0_scratch2 : tM.IsWhole).wordExact ⟨Or.inl rfl, trivial⟩)
  Prog.lift (.waitDma2 loadS w.mem tM w.exact (Memref.isWhole_whole cc0_scratch2 : tM.IsWhole).wordExact)
/-- It is multiplied by the columns of `w`. -/
def pMultiply (a1 : Memref sig .tc .vmem S8192x1024 .bf16) : Prog (TpuEff nD τ sig (Elt F) Λ₀ .tc) PUnit := do
  let x ← Prog.lift (.load tM (Rect.unit (s := S256x8192) ![0, 0] S256x8192.size inb_S256x8192_S256x8192_0_0).toLoadRect (View.loadsAt_vmem h_S256x8192))
  let w ← Prog.lift (.load a1 (Rect.unit (s := S8192x1024) ![0, 0] S8192x1024.size inb_S8192x1024_S8192x1024_0_0).toLoadRect (View.loadsAt_vmem h_S8192x1024))
  let _ ← Prog.lift (.load yM (Rect.unit (s := S256x1024) ![0, 0] S256x1024.size inb_S256x1024_S256x1024_0_0).toLoadRect (View.loadsAt_vmem h_S256x1024))
  Prog.lift (.store yM (Rect.unit (s := S256x1024) ![0, 0] S256x1024.size inb_S256x1024_S256x1024_0_0) (k0_pay5 x w) Finset.univ (View.stores_vmem_bits_univ h_S256x1024 rfl) (.inl rfl))
/-- The result's tile goes out. -/
def pOutTile (o : OWin) : Prog (TpuEff nD τ sig (Elt F) Λ₀ .tc) PUnit := do
  Prog.lift (.enqueueDma yM (.here o.mem) (.dma storeS) (Memref.isWhole_whole cc0_scratch3 : yM.IsWhole).wordExact (View.wordExact_bits rfl) ⟨Or.inl rfl, trivial⟩)
  Prog.lift (.waitDma2 storeS yM o.mem (Memref.isWhole_whole cc0_scratch3 : yM.IsWhole).wordExact (View.wordExact_bits rfl))

/-- Trip 8: transfers 0 and 1 have arrived, and each neighbour gets its rows passed on and the device's other half. -/
def secondSends (c : Dev nD) (k : Fin k0_t3_loop.trips) (h : k0_cond7 k = 1#1) : Prog (TpuEff nD τ sig (Elt F) Λ₀ .tc) PUnit := do
  pRecv 0 (⟨k0_off18 c, k0_off18_inb c k h, k0_off18_wordsbf16 c k h⟩ : CWin 1024)
  pSend 2 ⟨k0_dev5 c, k0_dev5_lt c k h⟩ (⟨k0_off18 c, k0_off18_inb c k h, k0_off18_wordsbf16 c k h⟩ : CWin 1024)
  pSend 4 ⟨k0_dev6 c, k0_dev6_lt c k h⟩ (⟨k0_off19 c 0#32, k0_off19_inb c k h 0, k0_off19_wordsbf16 c k h 0⟩ : CWin 256)
  pSend 5 ⟨k0_dev7 c, k0_dev7_lt c k h⟩ (⟨k0_off19 c 256#32, k0_off19_inb c k h 1, k0_off19_wordsbf16 c k h 1⟩ : CWin 256)
  pSend 6 ⟨k0_dev8 c, k0_dev8_lt c k h⟩ (⟨k0_off19 c 512#32, k0_off19_inb c k h 2, k0_off19_wordsbf16 c k h 2⟩ : CWin 256)
  pSend 7 ⟨k0_dev9 c, k0_dev9_lt c k h⟩ (⟨k0_off19 c 768#32, k0_off19_inb c k h 3, k0_off19_wordsbf16 c k h 3⟩ : CWin 256)
  pRecv 1 (⟨k0_off20 c, k0_off20_inb c k h, k0_off20_wordsbf16 c k h⟩ : CWin 1024)
  pSend 3 ⟨k0_dev10 c, k0_dev10_lt c k h⟩ (⟨k0_off20 c, k0_off20_inb c k h, k0_off20_wordsbf16 c k h⟩ : CWin 1024)
  pSend 8 ⟨k0_dev11 c, k0_dev11_lt c k h⟩ (⟨k0_off21 c 0#32, k0_off21_inb c k h 0, k0_off21_wordsbf16 c k h 0⟩ : CWin 256)
  pSend 9 ⟨k0_dev12 c, k0_dev12_lt c k h⟩ (⟨k0_off21 c 256#32, k0_off21_inb c k h 1, k0_off21_wordsbf16 c k h 1⟩ : CWin 256)
  pSend 10 ⟨k0_dev13 c, k0_dev13_lt c k h⟩ (⟨k0_off21 c 512#32, k0_off21_inb c k h 2, k0_off21_wordsbf16 c k h 2⟩ : CWin 256)
  pSend 11 ⟨k0_dev14 c, k0_dev14_lt c k h⟩ (⟨k0_off21 c 768#32, k0_off21_inb c k h 3, k0_off21_wordsbf16 c k h 3⟩ : CWin 256)

/-- The first part of a trip: trips 8, 16, 20, 24 to 29. -/
def tripHead (c : Dev nD) (k : Fin k0_t3_loop.trips) : Prog (TpuEff nD τ sig (Elt F) Λ₀ .tc) PUnit := do
  pWhen (k0_cond7 k = 1#1) fun h => secondSends c k h
  pWhen (k0_cond8 k = 1#1) fun h => pRecv 2 (⟨k0_off22 c, k0_off22_inb c k h, k0_off22_wordsbf16 c k h⟩ : CWin 1024)
  pWhen (k0_cond9 k = 1#1) fun h => pRecv 3 (⟨k0_off23 c, k0_off23_inb c k h, k0_off23_wordsbf16 c k h⟩ : CWin 1024)
  pWhen (k0_cond10 k = 1#1) fun h => pRecv 4 (⟨k0_off24 c, k0_off24_inb c k h, k0_off24_wordsbf16 c k h⟩ : CWin 256)
  pWhen (k0_cond11 k = 1#1) fun h => pRecv 8 (⟨k0_off25 c, k0_off25_inb c k h, k0_off25_wordsbf16 c k h⟩ : CWin 256)
  pWhen (k0_cond12 k = 1#1) fun h => pRecv 5 (⟨k0_off26 c, k0_off26_inb c k h, k0_off26_wordsbf16 c k h⟩ : CWin 256)
  pWhen (k0_cond13 k = 1#1) fun h => pRecv 9 (⟨k0_off27 c, k0_off27_inb c k h, k0_off27_wordsbf16 c k h⟩ : CWin 256)
  pWhen (k0_cond14 k = 1#1) fun h => pRecv 6 (⟨k0_off28 c, k0_off28_inb c k h, k0_off28_wordsbf16 c k h⟩ : CWin 256)
  pWhen (k0_cond15 k = 1#1) fun h => pRecv 10 (⟨k0_off29 c, k0_off29_inb c k h, k0_off29_wordsbf16 c k h⟩ : CWin 256)
/-- The second: trips 30 and 31. -/
def tripNeck (c : Dev nD) (k : Fin k0_t3_loop.trips) : Prog (TpuEff nD τ sig (Elt F) Λ₀ .tc) PUnit := do
  pWhen (k0_cond16 k = 1#1) fun h => pRecv 7 (⟨k0_off30 c, k0_off30_inb c k h, k0_off30_wordsbf16 c k h⟩ : CWin 256)
  pWhen (k0_cond17 k = 1#1) fun h => pRecv 11 (⟨k0_off31 c, k0_off31_inb c k h, k0_off31_wordsbf16 c k h⟩ : CWin 256)
/-- The third: the tile. -/
def tripTile (a1 : Memref sig .tc .vmem S8192x1024 .bf16) (c : Dev nD) (k : Fin k0_t3_loop.trips) : Prog (TpuEff nD τ sig (Elt F) Λ₀ .tc) PUnit := do
  pLoadTile (⟨k0_off32 c k, k0_off32_inb c k, k0_off32_wordsbf16 c k⟩ : CWin 256)
  pMultiply a1
  pOutTile ⟨k0_off33 c k, k0_off33_inb c k⟩

/-! ## The printed trip is this program -/

/-- A guarded block that runs on into the rest of the program is the guarded step followed by the rest. -/
theorem when_join {α : Type} {p : Prop} [Decidable p] {T : p → Prog (TpuEff nD τ sig (Elt F) Λ₀ .tc) α} {B B' : Prog (TpuEff nD τ sig (Elt F) Λ₀ .tc) α}
    {A : p → Prog (TpuEff nD τ sig (Elt F) Λ₀ .tc) PUnit} (hT : ∀ h, T h = A h >>= fun _ => B) (hB : B = B') :
    (if h : p then T h else B) = (pWhen p A >>= fun _ => B') := by
  subst hB
  unfold pWhen
  split
  · next h => exact hT h
  · rw [Prog.pure_eq_ret, Prog.bind_ret]

theorem part7_eq (a1 : Memref sig .tc .vmem S8192x1024 .bf16) (h0 : xM.IsWhole) (h1 : a1.IsWhole) (h2 : oM.IsWhole) (h3 : gM.IsWhole) (h4 : aM.IsWhole) (h5 : bM.IsWhole)
    (h6 : tM.IsWhole) (h7 : yM.IsWhole) (c : Dev nD) (v5 v7 i0 i1 : BitVec 32) (k : Fin k0_t3_loop.trips) :
    k0_part7 (F := F) xM h0 a1 h1 oM h2 gM h3 aM h4 bM h5 tM h6 yM h7 cc0_scratch4 cc0_scratch5 cc0_scratch6 cc0_scratch7 cc0_scratch8 cc0_scratch9 c v5 v7 i0 i1 k
      = tripHead c k >>= fun _ => pure (Scf.iv i0 i1 k) := by
  rw [k0_part7_eq_skeleton]
  unfold k0_part7_skel tripHead
  simp only [Prog.bind_assoc]
  refine when_join (fun h => ?_) <| when_join (fun h => rfl) <| when_join (fun h => rfl) <| when_join (fun h => rfl) <| when_join (fun h => rfl) <|
    when_join (fun h => rfl) <| when_join (fun h => rfl) <| when_join (fun h => rfl) <| when_join (fun h => rfl) rfl
  rw [k0_part5_eq_skeleton, k0_part6_eq_skeleton]
  unfold k0_part5_skel k0_part6_skel secondSends pRecv pSend
  simp only [Prog.lift, Prog.bind_op, Prog.bind_ret, Prog.pure_eq_ret, Prog.bind_assoc]
  rfl

theorem part8_eq (a1 : Memref sig .tc .vmem S8192x1024 .bf16) (h0 : xM.IsWhole) (h1 : a1.IsWhole) (h2 : oM.IsWhole) (h3 : gM.IsWhole) (h4 : aM.IsWhole) (h5 : bM.IsWhole)
    (h6 : tM.IsWhole) (h7 : yM.IsWhole) (c : Dev nD) (v5 v7 v10 v11 v12 : BitVec 32) (k : Fin k0_t3_loop.trips) (i : BitVec 32) :
    ∃ w, k0_part8 (F := F) xM h0 a1 h1 oM h2 gM h3 aM h4 bM h5 tM h6 yM h7 cc0_scratch4 cc0_scratch5 cc0_scratch6 cc0_scratch7 cc0_scratch8 cc0_scratch9 c v5 v7 v10 v11 v12 k i
      = tripNeck c k >>= fun _ => pure w := by
  rw [k0_part8_eq_skeleton]
  unfold k0_part8_skel tripNeck
  simp only [Prog.bind_assoc]
  exact ⟨_, when_join (fun h => rfl) <| when_join (fun h => rfl) rfl⟩

/-- The printed trip is the three parts in turn. -/
theorem t3_body_eq (a1 : Memref sig .tc .vmem S8192x1024 .bf16) (h0 : xM.IsWhole) (h1 : a1.IsWhole) (h2 : oM.IsWhole) (h3 : gM.IsWhole) (h4 : aM.IsWhole) (h5 : bM.IsWhole)
    (h6 : tM.IsWhole) (h7 : yM.IsWhole) (c : Dev nD) (v5 v7 v10 v11 v12 v13 : BitVec 32) (k : Fin k0_t3_loop.trips) (u : Unit) :
    k0_t3_body (F := F) xM h0 a1 h1 oM h2 gM h3 aM h4 bM h5 tM h6 yM h7 cc0_scratch4 cc0_scratch5 cc0_scratch6 cc0_scratch7 cc0_scratch8 cc0_scratch9 c v5 v7 v10 v11 v12 v13 k u
      = tripHead c k >>= fun _ => tripNeck c k >>= fun _ => tripTile a1 c k := by
  unfold k0_t3_body
  rw [part7_eq]
  simp only [Prog.pure_eq_ret, Prog.bind_ret, Prog.bind_assoc]
  refine congrArg (fun f => tripHead (F := F) c k >>= f) (funext fun _ => ?_)
  obtain ⟨w, hw⟩ := part8_eq (F := F) a1 h0 h1 h2 h3 h4 h5 h6 h7 c v5 v7 v10 v11 v12 k (Scf.iv 0#32 1#32 k)
  rw [hw, k0_part9_eq_skeleton, k0_part10_eq_skeleton]
  unfold k0_part9_skel k0_part10_skel tripTile pLoadTile pMultiply pOutTile
  simp only [Prog.lift, Prog.bind_op, Prog.bind_ret, Prog.pure_eq_ret, Prog.bind_assoc]
  rfl

end Cert.GatherMatmul

end
-- ==== Proof.Tiles.lean ====
/-
# The order of the tiles

A device multiplies the 32 tiles of 256 gathered rows in the order in which they reach it: its own eight, the half of
each neighbour that travels one link first, the halves of the opposite device, and the neighbours' other halves. Rows of
the gathered copy are cut into and joined from equal chunks.
-/
module

public import proofs.«01_k».proof.Proof.Trip

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Chunks of rows -/

section Chunks
variable (c : Dev nD) (q : PosShare TreeShare) (f : S8192x8192.Idx → Elt F .bf16)

theorem rows_append (A B a n p : ℕ) : rows A B a (n + p) = rows A B a n ∪ rows A B (a + n) p := by
  ext i; rw [Finset.mem_union, mem_rows, mem_rows, mem_rows]; omega
theorem rows_disjoint (A B : ℕ) {a n a' n' : ℕ} (h : a + n ≤ a' ∨ a' + n' ≤ a) : Disjoint (rows A B a n) (rows A B a' n') := by
  rw [Finset.disjoint_left]; intro i hi hj; rw [mem_rows] at hi hj; omega
theorem rows_none (A B a : ℕ) : rows A B a 0 = ∅ := by
  ext i; rw [mem_rows]; exact ⟨fun h => absurd h (by omega), fun h => absurd h (Finset.notMem_empty i)⟩

/-- Rows `[a, a + n + p)` are rows `[a, a + n)` and the next `p`. -/
theorem gPts_append (a n p : ℕ) : (gPts c a (n + p) q f : sProp 𝕄) ⊣⊢ iprop(gPts c a n q f ∗ gPts c (a + n) p q f) := by
  unfold gPts
  rw [rows_append]
  exact pointsTo_union (rows_disjoint 8192 8192 (Or.inl le_rfl))
theorem gPts_none (a : ℕ) : (gPts c a 0 q f : sProp 𝕄) = iprop(emp) := by unfold gPts; rw [rows_none]; exact pointsTo_empty

/-- `k` chunks of `n` rows each. -/
theorem gPts_chunks (a n k : ℕ) : (gPts c a (n * k) q f : sProp 𝕄) ⊣⊢ bigSep (Finset.range k) fun i => gPts c (a + n * i) n q f := by
  induction k with
  | zero => rw [Nat.mul_zero, gPts_none, Finset.range_zero]; exact ⟨Entails.of_eq rfl, Entails.of_eq rfl⟩
  | succ k ih =>
    rw [Finset.range_eq_Ico, BI.bigSep_Ico_succ_top (Nat.zero_le k), ← Finset.range_eq_Ico, Nat.mul_succ]
    constructor
    · iintro H
      ihave H := (gPts_append c q f a (n * k) n).1 $$ H
      icases H with ⟨H1, H2⟩
      isplitl [H2]; · iexact H2
      iapply ih.1 $$ H1
    · iintro ⟨H2, H1⟩
      iapply (gPts_append c q f a (n * k) n).2
      isplitl [H1]; · iapply ih.2 $$ H1
      iexact H2

/-- A share is its two halves. -/
theorem gPts_share (a n : ℕ) : (gPts c a n q f : sProp 𝕄) ⊣⊢ iprop(gPts c a n q.left f ∗ gPts c a n q.right f) := by
  unfold gPts; exact pointsTo_share (PosShare.mem_left_op_right q)
end Chunks

/-- One summand of a big sum, and the others. -/
theorem bigSep_take {I : Type} [DecidableEq I] {S : Finset I} {i : I} (h : i ∈ S) (Φ : I → sProp 𝕄) : bigSep S Φ = iprop(Φ i ∗ bigSep (S.erase i) Φ) :=
  BI.bigSep_erase h
/-- A big sum over an interval, counted from its lower end. -/
theorem bigSep_shift (a n : ℕ) (Φ : ℕ → sProp 𝕄) : bigSep (Finset.Ico a (a + n)) Φ = bigSep (Finset.range n) fun i => Φ (a + i) := by
  induction n with
  | zero => rw [Nat.add_zero, Finset.Ico_self, Finset.range_zero, BI.bigSep_empty, BI.bigSep_empty]
  | succ n ih => rw [← Nat.add_assoc, BI.bigSep_Ico_succ_top (Nat.le_add_right a n), ih, Finset.range_eq_Ico, Finset.range_eq_Ico, BI.bigSep_Ico_succ_top (Nat.zero_le n)]

/-! ## The order -/

/-- The tile trip `j` of device `c` multiplies. -/
def tile (c : Dev nD) (j : ℕ) : ℕ :=
  if j < 8 then 8 * c.val + j
  else if j < 12 then 8 * ((c.val + 3) % 4) + (j - 8)
  else if j < 16 then 8 * ((c.val + 1) % 4) + 4 + (j - 12)
  else if j < 20 then 8 * ((c.val + 2) % 4) + (j - 16)
  else if j < 24 then 8 * ((c.val + 2) % 4) + 4 + (j - 20)
  else if j % 2 = 0 then 8 * ((c.val + 3) % 4) + 4 + (j - 24) / 2
  else 8 * ((c.val + 1) % 4) + (j - 24) / 2

theorem off32_eq : ∀ (c : Dev nD) (k : Fin k0_t3_loop.trips), k0_off32 c k = ![256 * tile c k.val, 0] := by decide +kernel
theorem off33_eq : ∀ (c : Dev nD) (k : Fin k0_t3_loop.trips), k0_off33 c k = ![256 * tile c k.val, 0] := by decide +kernel

/-- The trip that waits for transfer `s`. -/
def due (s : Fin 12) : ℕ := ![8, 8, 16, 20, 24, 26, 28, 30, 25, 27, 29, 31] s
/-- The first of the trips that multiply what transfer `s` brings. -/
def lo (s : Fin 12) : ℕ := ![8, 12, 16, 20, 24, 26, 28, 30, 25, 27, 29, 31] s
/-- How many they are. -/
abbrev cnt (s : Fin 12) : ℕ := if s.val < 4 then 4 else 1

theorem len_cnt (s : Fin 12) : len s = 256 * cnt s := by revert s; decide
theorem tile_lo (c : Dev nD) (s : Fin 12) (i : ℕ) (hi : i < cnt s) : rRow s c + 256 * i = 256 * tile c (lo s + i) := by
  have hi4 : i < 4 := lt_of_lt_of_le hi (by clear hi; revert s; decide)
  have key : ∀ (c : Dev nD) (s : Fin 12) (i : Fin 4), i.val < cnt s → rRow s c + 256 * i.val = 256 * tile c (lo s + i.val) := by decide +kernel
  exact key c s ⟨i, hi4⟩ hi
theorem due_le_lo (s : Fin 12) : due s ≤ lo s := by revert s; decide
/-- From trip 8 on each trip multiplies what one transfer brought, and it has arrived. -/
theorem owner : ∀ j : Fin 32, 8 ≤ j.val → ∃ s : Fin 12, lo s ≤ j.val ∧ j.val < lo s + cnt s ∧ ∀ s' : Fin 12, s' ≠ s → j.val < lo s' ∨ lo s' + cnt s' ≤ j.val := by decide +kernel

variable (m : (ℓ : Loc nD τ sig) → Buf (Elt F) ℓ) (c : Dev nD)

/-- Tile `t` of gathered rows, at some share. -/
def TT (t : ℕ) : sProp 𝕄 := iprop(∃ q, gPts c (256 * t) 256 q (gathered m))
/-- The tiles trips `[a, b)` multiply. -/
def tls (a b : ℕ) : sProp 𝕄 := bigSep (Finset.Ico a b) fun j => TT m c (tile c j)

theorem tls_next {a b : ℕ} (h : a < b) : tls m c a b = iprop(TT m c (tile c a) ∗ tls m c (a + 1) b) := by
  unfold tls; exact BI.bigSep_Ico_succ_bot h _

/-- Consecutive tiles of gathered rows are what as many consecutive trips multiply. -/
theorem rows_tls (a j n : ℕ) (q : PosShare TreeShare) (h : ∀ i, i < n → a + 256 * i = 256 * tile c (j + i)) :
    (gPts c a (256 * n) q (gathered m) : sProp 𝕄) ⊢ tls m c j (j + n) := by
  unfold tls
  rw [bigSep_shift]
  refine (gPts_chunks c q (gathered m) a 256 n).1.trans (bigSep_mono fun i hi => ?_)
  rw [h i (Finset.mem_range.mp hi)]
  exact exists_intro (Φ := fun q => gPts c (256 * tile c (j + i)) 256 q (gathered m)) q

/-- What transfer `s` brings is the tiles of its trips. -/
theorem got_tls (s : Fin 12) (q : PosShare TreeShare) : (gPts c (rRow s c) (len s) q (gathered m) : sProp 𝕄) ⊢ tls m c (lo s) (lo s + cnt s) := by
  rw [len_cnt]; exact rows_tls m c (rRow s c) (lo s) (cnt s) q fun i hi => tile_lo c s i hi

end Cert.GatherMatmul

end
-- ==== Proof.Remote.lean ====
/-
# The transfers between devices, as a trip of the multiplying loop sees them

Before trip 8 a device waits for nothing from its neighbours and the transfers 2 to 11 are still to be started; trip 8
takes what transfers 0 and 1 brought and starts them all; later trips take what transfers 2 to 11 brought, each at its own
trip. Half a share of what transfers 0 and 1 brought is passed on, the other half is multiplied.
-/
module

public import proofs.«01_k».proof.Proof.Tiles

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-! ## The steps -/

theorem runs_send {n : ℕ} (s : Fin 12) (d : Dev nD) (w : CWin n) (hd : d = dst s c) (ho : w.off = ![sRow s c, 0]) (hn : n = len s) (S : Finset (Fin 12)) (hS : s ∈ S) :
    Runs c (pSend s d w) iprop(recs m K ∗ owesS c S ∗ SendR s c ∗ Src m s c) iprop(owesS c (S.erase s) ∗ Sent s c) := by
  intro Q
  iintro H Hk
  unfold pSend Prog.lift
  iapply (wp_send m K c s d hd ho (by rw [hn]) rfl rfl S hS) $$ H
  iintro H
  rw [wp_ret]; imodintro
  iapply Hk $$ H

theorem runs_recv {n : ℕ} (s : Fin 12) (w : CWin n) (hn : n = len s) (S : Finset (Fin 12))
    (hmay : (levAts L lv : sProp 𝕄) ⊢ MayWait (c : Thread nD τ) (csem (.inr (true, s))) () (owed c S)) :
    Runs c (pRecv s w) iprop(recs m K ∗ levAts L lv ∗ owesS c S ∗ pend s c) iprop(owesS c S ∗ zero c (recvS s) ∗ got m s c) := by
  intro Q
  unfold pend
  iintro H Hk
  unfold pRecv Prog.lift
  iapply (wp_wait_cell m K c true s (by rw [hn]) rfl S hmay) $$ H
  iintro H
  rw [wp_ret]; imodintro
  iapply Hk
  iexact H

/-- A device that owes nothing may wait on any of its cells. -/
theorem mayWait_none (k : Ck) : (levAts L lv : sProp 𝕄) ⊢ MayWait (c : Thread nD τ) (csem k) () (owed c ∅) :=
  mayWait_of c _ _ le_rfl _ fun g u hg => absurd hg (by rw [owed_empty]; exact Nat.lt_irrefl 0)

theorem runs_sendWait {n : ℕ} (s : Fin 12) (w : CWin n) (hn : n = len s) :
    Runs c (pSendWait s w) iprop(recs m K ∗ levAts L lv ∗ owesS c ∅ ∗ Sent s c) iprop(owesS c ∅ ∗ zero c (sendS s)) := by
  intro Q
  unfold Sent
  iintro H Hk
  unfold pSendWait Prog.lift
  iapply (wp_wait_cell m K c false s (by rw [hn]) rfl ∅ (mayWait_none c _)) $$ H
  iintro ⟨HO, Hz, -⟩
  rw [wp_ret]; imodintro
  iapply Hk
  isplitl [HO]; · iexact HO
  iexact Hz

/-! ## The second set of transfers -/

/-- Transfers 2 to 11, but for the first `n` in the order in which they are started. -/
def rem (n : ℕ) : Finset (Fin 12) := ([2, 4, 5, 6, 7, 3, 8, 9, 10, 11].drop n).toFinset
/-- Transfers 2 to 11. -/
def later : Finset (Fin 12) := rem 0
/-- What device `c` holds of transfers 2 to 11 while those in `S` are still to be started. Transfers 2 and 3 carry rows that
    have yet to arrive; the others' are there. -/
def sndR (S : Finset (Fin 12)) : sProp 𝕄 :=
  iprop(bigSep S (fun s => iprop(SendR (F := F) s c ∗ (if 4 ≤ s.val then Src m s c else iprop(emp)))) ∗ bigSep (later \ S) (fun s => Sent (F := F) s c))
/-- The same, and what it owes. -/
def sndS (S : Finset (Fin 12)) : sProp 𝕄 := iprop(owesS c S ∗ sndR m c S)

theorem src_kept (s : Fin 12) (h : 4 ≤ s.val) : iprop((if 4 ≤ s.val then Src m s c else iprop(emp)) ∗ emp) ⊢ (Src m s c : sProp 𝕄) := by
  rw [if_pos h]; exact sep_elim_left
theorem src_given (s : Fin 12) (h : ¬4 ≤ s.val) : iprop((if 4 ≤ s.val then Src m s c else iprop(emp)) ∗ Src m s c) ⊢ (Src m s c : sProp 𝕄) := by
  rw [if_neg h]; exact sep_elim_right

theorem runs_snd {n : ℕ} (s : Fin 12) (d : Dev nD) (w : CWin n) (hd : d = dst s c) (ho : w.off = ![sRow s c, 0]) (hn : n = len s) (S S' : Finset (Fin 12)) (hS : s ∈ S) (hl : S ⊆ later) (hS' : S.erase s = S')
    {X : sProp 𝕄} (hX : iprop((if 4 ≤ s.val then Src m s c else iprop(emp)) ∗ X) ⊢ Src m s c) :
    Runs c (pSend s d w) iprop(recs m K ∗ sndS m c S ∗ X) (sndS m c S') := by
  subst hS'
  intro Q
  unfold sndS sndR
  rw [BI.bigSep_erase hS, show later \ S.erase s = insert s (later \ S) from by
    ext x; simp only [Finset.mem_sdiff, Finset.mem_insert, Finset.mem_erase]
    by_cases hx : x = s
    · subst hx; simp only [hl hS, ne_eq, not_true_eq_false, false_and, not_false_eq_true, and_self, true_or]
    · simp only [ne_eq, hx, not_false_eq_true, true_and, false_or], BI.bigSep_insert (fun h => (Finset.mem_sdiff.mp h).2 hS)]
  iintro ⟨#Hrec, ⟨HO, HS, Hd⟩, HX⟩ Hk
  ihave HS := (show _ ⊢ iprop((SendR (F := F) s c ∗ (if 4 ≤ s.val then Src m s c else iprop(emp))) ∗ bigSep (S.erase s) fun s => iprop(SendR (F := F) s c ∗ (if 4 ≤ s.val then Src m s c else iprop(emp)))) from Entails.of_eq rfl) $$ HS
  icases HS with ⟨⟨Hr, Hs⟩, HS⟩
  iapply (runs_send m K c s d w hd ho hn S hS _) $$ [HO Hr Hs HX]
  · isplitr; · iexact Hrec
    isplitl [HO]; · iexact HO
    isplitl [Hr]; · iexact Hr
    iapply hX
    isplitl [Hs]; · iexact Hs
    iexact HX
  iintro ⟨HO, Ht⟩
  iapply Hk
  isplitl [HO]; · iexact HO
  isplitl [HS]; · iexact HS
  iapply (show iprop(Sent (F := F) s c ∗ bigSep (later \ S) fun s => Sent (F := F) s c) ⊢ _ from Entails.of_eq rfl)
  isplitl [Ht]; · iexact Ht
  iexact Hd

/-- What transfer 0 or 1 brought, half of it to be passed on and half to be multiplied. -/
theorem got_halves (s s' : Fin 12) (h : sRow s' c = rRow s c) (hl : len s' = len s) :
    (got m s c : sProp 𝕄) ⊢ iprop(Src m s' c ∗ tls m c (lo s) (lo s + cnt s)) := by
  unfold got Src
  rw [h, hl]
  refine (gPts_share c fullShare (gathered m) (rRow s c) (len s)).1.trans (BI.sep_mono ?_ (got_tls m c s _))
  exact exists_intro (Φ := fun q => gPts c (rRow s c) (len s) q (gathered m)) _

/-- What device `c` holds of the arrival of transfer `s` before trip `j`, `a` telling whether the trip's own wait is over:
    it is pending, or its cell is done and the tiles it brought that are not multiplied yet are there. -/
def slotAt (s : Fin 12) (a j : ℕ) : sProp 𝕄 :=
  if due s < a then iprop(zero c (recvS s) ∗ tls m c (max j (lo s)) (lo s + cnt s)) else pend s c
theorem slotAt_pend (s : Fin 12) (a j : ℕ) (h : a ≤ due s) : slotAt m c s a j = pend s c := if_neg (by omega)
theorem slotAt_done (s : Fin 12) (a j : ℕ) (h : due s < a) (hj : j ≤ lo s) :
    slotAt m c s a j = iprop(zero c (recvS s) ∗ tls m c (lo s) (lo s + cnt s)) := by
  unfold slotAt; rw [if_pos h, max_eq_right hj]

set_option maxRecDepth 4000 in
set_option maxHeartbeats 2000000 in
/-- Trip 8 of the loop: both arrivals, and transfers 2 to 11 started. -/
theorem secondSends_runs (k : Fin k0_t3_loop.trips) (h : k0_cond7 k = 1#1) :
    Runs c (secondSends c k h) iprop(recs m K ∗ levAts L lv ∗ sndS m c later ∗ pend 0 c ∗ pend 1 c)
      iprop(sndS m c ∅ ∗ (zero c (recvS 0) ∗ tls m c (lo 0) (lo 0 + cnt 0)) ∗ (zero c (recvS 1) ∗ tls m c (lo 1) (lo 1 + cnt 1))) := by
  intro Q
  unfold secondSends
  simp only [wp_bind]
  iintro ⟨#Hrec, #Hl, HS, Hp0, Hp1⟩ Hk
  ihave HS := (show sndS m c later ⊢ iprop(owesS c later ∗ sndR m c later) from Entails.of_eq rfl) $$ HS
  icases HS with ⟨HO, HS⟩
  iapply (runs_recv m K c 0 _ rfl later (mayWait_first c 0 (by decide) later (by decide)) _) $$ [HO Hp0]
  · isplitr; · iexact Hrec
    isplitr; · iexact Hl
    isplitl [HO]; · iexact HO
    iexact Hp0
  iintro ⟨HO, Hz0, Hg⟩
  ihave Hg := (got_halves m c 0 2 rfl rfl) $$ Hg
  icases Hg with ⟨Hq, Ht0⟩
  ihave HS := (show iprop(owesS c later ∗ sndR m c later) ⊢ sndS m c later from Entails.of_eq rfl) $$ [HO HS]
  · isplitl [HO]; · iexact HO
    iexact HS
  iapply (runs_snd m K c 2 _ _ (Fin.ext (k0_dev5_eq c)) (k0_off18_eq c) rfl (rem 0) (rem 1) (by decide) (by decide) (by decide) (src_given m c 2 (by decide)) _) $$ [HS Hq]
  · isplitr; · iexact Hrec
    isplitl [HS]; · iexact HS
    iexact Hq
  iintro HS
  iapply (runs_snd m K c 4 _ _ (Fin.ext (k0_dev6_eq c)) (k0_off19_eq c 0) rfl (rem 1) (rem 2) (by decide) (by decide) (by decide) (src_kept m c 4 (by decide)) _) $$ [HS]
  · isplitr; · iexact Hrec
    isplitl [HS]; · iexact HS
    iempintro
  iintro HS
  iapply (runs_snd m K c 5 _ _ (Fin.ext (k0_dev7_eq c)) (k0_off19_eq c 1) rfl (rem 2) (rem 3) (by decide) (by decide) (by decide) (src_kept m c 5 (by decide)) _) $$ [HS]
  · isplitr; · iexact Hrec
    isplitl [HS]; · iexact HS
    iempintro
  iintro HS
  iapply (runs_snd m K c 6 _ _ (Fin.ext (k0_dev8_eq c)) (k0_off19_eq c 2) rfl (rem 3) (rem 4) (by decide) (by decide) (by decide) (src_kept m c 6 (by decide)) _) $$ [HS]
  · isplitr; · iexact Hrec
    isplitl [HS]; · iexact HS
    iempintro
  iintro HS
  iapply (runs_snd m K c 7 _ _ (Fin.ext (k0_dev9_eq c)) (k0_off19_eq c 3) rfl (rem 4) (rem 5) (by decide) (by decide) (by decide) (src_kept m c 7 (by decide)) _) $$ [HS]
  · isplitr; · iexact Hrec
    isplitl [HS]; · iexact HS
    iempintro
  iintro HS
  ihave HS := (show sndS m c (rem 5) ⊢ iprop(owesS c (rem 5) ∗ sndR m c (rem 5)) from Entails.of_eq rfl) $$ HS
  icases HS with ⟨HO, HS⟩
  iapply (runs_recv m K c 1 _ rfl (rem 5) (mayWait_first c 1 (by decide) (rem 5) (by decide)) _) $$ [HO Hp1]
  · isplitr; · iexact Hrec
    isplitr; · iexact Hl
    isplitl [HO]; · iexact HO
    iexact Hp1
  iintro ⟨HO, Hz1, Hg⟩
  ihave Hg := (got_halves m c 1 3 rfl rfl) $$ Hg
  icases Hg with ⟨Hq, Ht1⟩
  ihave HS := (show iprop(owesS c (rem 5) ∗ sndR m c (rem 5)) ⊢ sndS m c (rem 5) from Entails.of_eq rfl) $$ [HO HS]
  · isplitl [HO]; · iexact HO
    iexact HS
  iapply (runs_snd m K c 3 _ _ (Fin.ext (k0_dev10_eq c)) (k0_off20_eq c) rfl (rem 5) (rem 6) (by decide) (by decide) (by decide) (src_given m c 3 (by decide)) _) $$ [HS Hq]
  · isplitr; · iexact Hrec
    isplitl [HS]; · iexact HS
    iexact Hq
  iintro HS
  iapply (runs_snd m K c 8 _ _ (Fin.ext (k0_dev11_eq c)) (k0_off21_eq c 0) rfl (rem 6) (rem 7) (by decide) (by decide) (by decide) (src_kept m c 8 (by decide)) _) $$ [HS]
  · isplitr; · iexact Hrec
    isplitl [HS]; · iexact HS
    iempintro
  iintro HS
  iapply (runs_snd m K c 9 _ _ (Fin.ext (k0_dev12_eq c)) (k0_off21_eq c 1) rfl (rem 7) (rem 8) (by decide) (by decide) (by decide) (src_kept m c 9 (by decide)) _) $$ [HS]
  · isplitr; · iexact Hrec
    isplitl [HS]; · iexact HS
    iempintro
  iintro HS
  iapply (runs_snd m K c 10 _ _ (Fin.ext (k0_dev13_eq c)) (k0_off21_eq c 2) rfl (rem 8) (rem 9) (by decide) (by decide) (by decide) (src_kept m c 10 (by decide)) _) $$ [HS]
  · isplitr; · iexact Hrec
    isplitl [HS]; · iexact HS
    iempintro
  iintro HS
  iapply (runs_snd m K c 11 _ _ (Fin.ext (k0_dev14_eq c)) (k0_off21_eq c 3) rfl (rem 9) (rem 10) (by decide) (by decide) (by decide) (src_kept m c 11 (by decide)) _) $$ [HS]
  · isplitr; · iexact Hrec
    isplitl [HS]; · iexact HS
    iempintro
  iintro HS
  iapply Hk
  isplitl [HS]
  · iapply (Entails.of_eq (congrArg (sndS m c) (show rem 10 = ∅ from by decide))) $$ HS
  isplitl [Hz0 Ht0]
  · isplitl [Hz0]; · iexact Hz0
    iexact Ht0
  isplitl [Hz1]; · iexact Hz1
  iexact Ht1

end Cert.GatherMatmul

end
-- ==== Proof.Arrive.lean ====
/-
# What each trip takes from the neighbours

Before each trip a device holds, of every transfer to it, either its pending arrival or the tiles it brought that are not
multiplied yet; the trip's guarded waits turn the transfer that is due from the one into the other.
-/
module

public import proofs.«01_k».proof.Proof.Remote

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-- What device `c` holds of transfers 2 to 11 to others, `a` being 8 or less until they are started. -/
def sndJ (a : ℕ) : sProp 𝕄 := sndS m c (if a ≤ 8 then later else ∅)
/-- What device `c` holds in trip `j` of the transfers to it, those in `W` having been waited for by the trip. -/
def slots (j : ℕ) (W : Finset (Fin 12)) : sProp 𝕄 := bigSep Finset.univ fun s => slotAt m c s (if s ∈ W then j + 1 else j) j

/-- The transfers whose waits a trip has passed after transfers 0 and 1 and `n` others. -/
def waited (n : ℕ) : Finset (Fin 12) := ([0, 1, 2, 3, 4, 8, 5, 9, 6, 10, 7, 11].take (n + 2)).toFinset

/-- One transfer's part of it, and the rest, which does not change as that transfer's wait is passed. -/
theorem slots_focus (j : ℕ) (s : Fin 12) (W W' : Finset (Fin 12)) (hs : s ∉ W) (hW : W' = insert s W) :
    slots m c j W ⊢ iprop(slotAt m c s j j ∗ (slotAt m c s (j + 1) j -∗ slots m c j W')) := by
  subst hW
  unfold slots
  rw [bigSep_take (Finset.mem_univ s), bigSep_take (Finset.mem_univ s) (fun s' => slotAt m c s' (if s' ∈ insert s W then j + 1 else j) j),
    if_neg hs, if_pos (Finset.mem_insert_self s W),
    bigSep_congr (s := Finset.univ.erase s) (Ψ := fun s' => slotAt m c s' (if s' ∈ insert s W then j + 1 else j) j) fun s' h' =>
      congrArg (fun a => slotAt m c s' a j) (if_congr (by rw [Finset.mem_insert, or_iff_right (Finset.ne_of_mem_erase h')]) rfl rfl)]
  iintro ⟨H, HR⟩
  isplitl [H]; · iexact H
  iintro H'
  isplitl [H']; · iexact H'
  iexact HR

/-- The parts of transfers 0 and 1. -/
theorem slots_first (j : ℕ) :
    slots m c j ∅ ⊢ iprop(slotAt m c 0 j j ∗ slotAt m c 1 j j ∗ ((slotAt m c 0 (j + 1) j ∗ slotAt m c 1 (j + 1) j) -∗ slots m c j (waited 0))) := by
  have h1 : (1 : Fin 12) ∈ Finset.univ.erase 0 := by decide
  unfold slots
  rw [bigSep_take (Finset.mem_univ 0), bigSep_take h1, bigSep_take (Finset.mem_univ 0) (fun s' => slotAt m c s' (if s' ∈ waited 0 then j + 1 else j) j), bigSep_take h1 (fun s' => slotAt m c s' (if s' ∈ waited 0 then j + 1 else j) j),
    if_neg (Finset.notMem_empty 0), if_neg (Finset.notMem_empty 1), if_pos (show 0 ∈ waited 0 by decide), if_pos (show 1 ∈ waited 0 by decide),
    bigSep_congr (s := (Finset.univ.erase 0).erase 1) (Ψ := fun s' => slotAt m c s' (if s' ∈ waited 0 then j + 1 else j) j) fun s' h' =>
      congrArg (fun a => slotAt m c s' a j) (if_congr (by revert s'; decide) rfl rfl)]
  iintro ⟨H0, H1, HR⟩
  isplitl [H0]; · iexact H0
  isplitl [H1]; · iexact H1
  iintro ⟨H0, H1⟩
  isplitl [H0]; · iexact H0
  isplitl [H1]; · iexact H1
  iexact HR

/-- Off its own trip a transfer's part is as it was. -/
theorem slotAt_pass (s : Fin 12) (j : ℕ) (h : j ≠ due s) : slotAt m c s (j + 1) j = slotAt m c s j j := by
  unfold slotAt
  by_cases h' : due s < j
  · rw [if_pos h', if_pos (by omega)]
  · rw [if_neg h', if_neg (by omega)]

/-- A guarded wait for one of transfers 2 to 11. -/
theorem wait_runs {n : ℕ} (j : ℕ) (s : Fin 12) (W W' : Finset (Fin 12)) (h2 : 8 < due s) (hs : s ∉ W) (hW : W' = insert s W) {p : Prop} [Decidable p] (hp : p ↔ j = due s)
    (w : p → CWin n) (hn : p → n = len s) :
    Runs c (pWhen p fun h => pRecv s (w h)) iprop(recs m K ∗ levAts L lv ∗ sndJ m c (j + 1) ∗ slots m c j W) iprop(sndJ m c (j + 1) ∗ slots m c j W') := by
  refine Runs.whenever c (fun h Q => ?_) (fun h => ?_)
  · have hj : j = due s := hp.1 h
    iintro ⟨#Hrec, #Hl, HS, HA⟩ Hk
    ihave HA := (slots_focus m c j s W W' hs hW) $$ HA
    icases HA with ⟨Hs, Hback⟩
    ihave Hs := (Entails.of_eq (slotAt_pend m c s j j (le_of_eq hj))) $$ Hs
    ihave HS := (show sndJ m c (j + 1) ⊢ iprop(owesS c ∅ ∗ sndR m c ∅) from by
      unfold sndJ; rw [if_neg (by omega)]; exact Entails.of_eq rfl) $$ HS
    icases HS with ⟨HO, HS⟩
    iapply (runs_recv m K c s (w h) (hn h) ∅ (mayWait_none c _) Q) $$ [HO Hs]
    · isplitr; · iexact Hrec
      isplitr; · iexact Hl
      isplitl [HO]; · iexact HO
      iexact Hs
    iintro ⟨HO, Hz, Hg⟩
    iapply Hk
    isplitl [HO HS]
    · unfold sndJ; rw [if_neg (by omega)]; unfold sndS
      isplitl [HO]; · iexact HO
      iexact HS
    iapply Hback
    rw [slotAt_done m c s (j + 1) j (by omega) (hj.trans_le (due_le_lo s))]
    isplitl [Hz]; · iexact Hz
    iapply (show got m s c ⊢ _ from got_tls m c s fullShare) $$ Hg
  · iintro ⟨-, -, HS, HA⟩
    isplitl [HS]; · iexact HS
    ihave HA := (slots_focus m c j s W W' hs hW) $$ HA
    icases HA with ⟨Hs, Hback⟩
    iapply Hback
    rw [slotAt_pass m c s j fun h' => h (hp.2 h')]
    iexact Hs

/-- The guarded step of trip 8. -/
theorem first_runs (k : Fin k0_t3_loop.trips) :
    Runs c (pWhen (k0_cond7 k = 1#1) fun h => secondSends c k h) iprop(recs m K ∗ levAts L lv ∗ sndJ m c k.val ∗ slots m c k.val ∅)
      iprop(sndJ m c (k.val + 1) ∗ slots m c k.val (waited 0)) := by
  have hp : k0_cond7 k = 1#1 ↔ k.val = 8 := by revert k; decide
  refine Runs.whenever c (fun h Q => ?_) (fun h => ?_)
  · have hj : k.val = 8 := hp.1 h
    iintro ⟨#Hrec, #Hl, HS, HA⟩ Hk
    ihave HA := (slots_first m c k.val) $$ HA
    icases HA with ⟨H0, H1, HA⟩
    ihave H0 := (Entails.of_eq (slotAt_pend m c 0 k.val k.val (le_of_eq hj))) $$ H0
    ihave H1 := (Entails.of_eq (slotAt_pend m c 1 k.val k.val (le_of_eq hj))) $$ H1
    ihave HS := (show sndJ m c k.val ⊢ sndS m c later from by unfold sndJ; rw [if_pos (by omega)]) $$ HS
    iapply (secondSends_runs m K c k h Q) $$ [HS H0 H1]
    · isplitr; · iexact Hrec
      isplitr; · iexact Hl
      isplitl [HS]; · iexact HS
      isplitl [H0]; · iexact H0
      iexact H1
    iintro ⟨HS, H0, H1⟩
    iapply Hk
    isplitl [HS]; · unfold sndJ; rw [if_neg (by omega)]; iexact HS
    iapply HA
    rw [slotAt_done m c 0 (k.val + 1) k.val (by rw [hj]; decide) (by rw [hj]; decide), slotAt_done m c 1 (k.val + 1) k.val (by rw [hj]; decide) (by rw [hj]; decide)]
    isplitl [H0]; · iexact H0
    iexact H1
  · have h8 : k.val ≠ 8 := fun h' => h (hp.2 h')
    iintro ⟨-, -, HS, HA⟩
    isplitl [HS]
    · unfold sndJ
      iapply (Entails.of_eq (congrArg (sndS m c) (show (if k.val ≤ 8 then later else ∅) = (if k.val + 1 ≤ 8 then later else ∅) from by
        by_cases h' : k.val ≤ 8
        · rw [if_pos h', if_pos (by omega)]
        · rw [if_neg h', if_neg (by omega)]))) $$ HS
    ihave HA := (slots_first m c k.val) $$ HA
    icases HA with ⟨H0, H1, HA⟩
    iapply HA
    rw [slotAt_pass m c 0 k.val h8, slotAt_pass m c 1 k.val h8]
    isplitl [H0]; · iexact H0
    iexact H1

/-- The waits of a trip. -/
theorem tripHead_runs (k : Fin k0_t3_loop.trips) :
    Runs c (tripHead c k) iprop(recs m K ∗ levAts L lv ∗ sndJ m c k.val ∗ slots m c k.val ∅) iprop(sndJ m c (k.val + 1) ∗ slots m c k.val (waited 8)) := by
  have e8 : k0_cond8 k = 1#1 ↔ k.val = due 2 := by revert k; decide
  have e9 : k0_cond9 k = 1#1 ↔ k.val = due 3 := by revert k; decide
  have e10 : k0_cond10 k = 1#1 ↔ k.val = due 4 := by revert k; decide
  have e11 : k0_cond11 k = 1#1 ↔ k.val = due 8 := by revert k; decide
  have e12 : k0_cond12 k = 1#1 ↔ k.val = due 5 := by revert k; decide
  have e13 : k0_cond13 k = 1#1 ↔ k.val = due 9 := by revert k; decide
  have e14 : k0_cond14 k = 1#1 ↔ k.val = due 6 := by revert k; decide
  have e15 : k0_cond15 k = 1#1 ↔ k.val = due 10 := by revert k; decide
  intro Q
  unfold tripHead
  simp only [wp_bind]
  iintro ⟨#Hrec, #Hl, HS, HA⟩ Hk
  iapply (first_runs m K c k _) $$ [HS HA]
  · isplitr; · iexact Hrec
    isplitr; · iexact Hl
    isplitl [HS]; · iexact HS
    iexact HA
  iintro ⟨HS, HA⟩
  iapply (wait_runs m K c k.val 2 (waited 0) (waited 1) (by decide) (by decide) (by decide) e8 _ (fun _ => rfl) _) $$ [HS HA]
  · isplitr; · iexact Hrec
    isplitr; · iexact Hl
    isplitl [HS]; · iexact HS
    iexact HA
  iintro ⟨HS, HA⟩
  iapply (wait_runs m K c k.val 3 (waited 1) (waited 2) (by decide) (by decide) (by decide) e9 _ (fun _ => rfl) _) $$ [HS HA]
  · isplitr; · iexact Hrec
    isplitr; · iexact Hl
    isplitl [HS]; · iexact HS
    iexact HA
  iintro ⟨HS, HA⟩
  iapply (wait_runs m K c k.val 4 (waited 2) (waited 3) (by decide) (by decide) (by decide) e10 _ (fun _ => rfl) _) $$ [HS HA]
  · isplitr; · iexact Hrec
    isplitr; · iexact Hl
    isplitl [HS]; · iexact HS
    iexact HA
  iintro ⟨HS, HA⟩
  iapply (wait_runs m K c k.val 8 (waited 3) (waited 4) (by decide) (by decide) (by decide) e11 _ (fun _ => rfl) _) $$ [HS HA]
  · isplitr; · iexact Hrec
    isplitr; · iexact Hl
    isplitl [HS]; · iexact HS
    iexact HA
  iintro ⟨HS, HA⟩
  iapply (wait_runs m K c k.val 5 (waited 4) (waited 5) (by decide) (by decide) (by decide) e12 _ (fun _ => rfl) _) $$ [HS HA]
  · isplitr; · iexact Hrec
    isplitr; · iexact Hl
    isplitl [HS]; · iexact HS
    iexact HA
  iintro ⟨HS, HA⟩
  iapply (wait_runs m K c k.val 9 (waited 5) (waited 6) (by decide) (by decide) (by decide) e13 _ (fun _ => rfl) _) $$ [HS HA]
  · isplitr; · iexact Hrec
    isplitr; · iexact Hl
    isplitl [HS]; · iexact HS
    iexact HA
  iintro ⟨HS, HA⟩
  iapply (wait_runs m K c k.val 6 (waited 6) (waited 7) (by decide) (by decide) (by decide) e14 _ (fun _ => rfl) _) $$ [HS HA]
  · isplitr; · iexact Hrec
    isplitr; · iexact Hl
    isplitl [HS]; · iexact HS
    iexact HA
  iintro ⟨HS, HA⟩
  iapply (wait_runs m K c k.val 10 (waited 7) (waited 8) (by decide) (by decide) (by decide) e15 _ (fun _ => rfl) _) $$ [HS HA]
  · isplitr; · iexact Hrec
    isplitr; · iexact Hl
    isplitl [HS]; · iexact HS
    iexact HA
  iintro ⟨HS, HA⟩
  iapply Hk
  isplitl [HS]; · iexact HS
  iexact HA

/-- The last two waits of a trip. -/
theorem tripNeck_runs (k : Fin k0_t3_loop.trips) :
    Runs c (tripNeck c k) iprop(recs m K ∗ levAts L lv ∗ sndJ m c (k.val + 1) ∗ slots m c k.val (waited 8)) iprop(sndJ m c (k.val + 1) ∗ slots m c k.val Finset.univ) := by
  have e16 : k0_cond16 k = 1#1 ↔ k.val = due 7 := by revert k; decide
  have e17 : k0_cond17 k = 1#1 ↔ k.val = due 11 := by revert k; decide
  intro Q
  unfold tripNeck
  simp only [wp_bind]
  iintro ⟨#Hrec, #Hl, HS, HA⟩ Hk
  iapply (wait_runs m K c k.val 7 (waited 8) (waited 9) (by decide) (by decide) (by decide) e16 _ (fun _ => rfl) _) $$ [HS HA]
  · isplitr; · iexact Hrec
    isplitr; · iexact Hl
    isplitl [HS]; · iexact HS
    iexact HA
  iintro ⟨HS, HA⟩
  iapply (wait_runs m K c k.val 11 (waited 9) (waited 10) (by decide) (by decide) (by decide) e17 _ (fun _ => rfl) _) $$ [HS HA]
  · isplitr; · iexact Hrec
    isplitr; · iexact Hl
    isplitl [HS]; · iexact HS
    iexact HA
  iintro ⟨HS, HA⟩
  iapply Hk
  isplitl [HS]; · iexact HS
  iapply (Entails.of_eq (congrArg (slots m c k.val) (show waited 10 = Finset.univ from by decide))) $$ HA

/-- After its waits a trip has the tile it multiplies, among the device's own or brought by a transfer; the rest is what
    the next trip starts with. -/
theorem slots_tile (j : ℕ) (hj : j < 32) :
    iprop(slots m c j Finset.univ ∗ tls m c j 8) ⊢ iprop(TT m c (tile c j) ∗ slots m c (j + 1) ∅ ∗ tls m c (j + 1) 8) := by
  have keep : ∀ s : Fin 12, (j < lo s ∨ lo s + cnt s ≤ j) → slotAt m c s (j + 1) j = slotAt m c s (j + 1) (j + 1) := fun s h => by
    unfold slotAt tls
    rw [show Finset.Ico (max j (lo s)) (lo s + cnt s) = Finset.Ico (max (j + 1) (lo s)) (lo s + cnt s) from by
      ext x; rw [Finset.mem_Ico, Finset.mem_Ico, max_le_iff, max_le_iff]; omega]
  have e0 : slots m c j Finset.univ = bigSep Finset.univ fun s => slotAt m c s (j + 1) j := by
    unfold slots; exact bigSep_congr fun s hs => by rw [if_pos (Finset.mem_univ s)]
  have e1 : slots m c (j + 1) ∅ = bigSep Finset.univ fun s => slotAt m c s (j + 1) (j + 1) := by
    unfold slots; exact bigSep_congr fun s hs => by rw [if_neg (Finset.notMem_empty s)]
  rw [e0, e1]
  by_cases h8 : j < 8
  · rw [tls_next m c h8, bigSep_congr fun s _ => keep s (Or.inl (lt_of_lt_of_le h8 (by revert s; decide)))]
    iintro ⟨HA, HT, Hts⟩
    isplitl [HT]; · iexact HT
    isplitl [HA]; · iexact HA
    iexact Hts
  · obtain ⟨s, h1, h2, h3⟩ := owner ⟨j, hj⟩ (Nat.le_of_not_lt h8)
    dsimp only at h1 h2 h3
    rw [bigSep_take (Finset.mem_univ s), bigSep_take (Finset.mem_univ s) (fun s => slotAt m c s (j + 1) (j + 1)),
      bigSep_congr fun s' hs' => keep s' (h3 s' (Finset.ne_of_mem_erase hs'))]
    unfold slotAt
    have hd := due_le_lo s
    rw [if_pos (by omega), if_pos (by omega), max_eq_left h1, max_eq_left (by omega), tls_next m c h2]
    iintro ⟨⟨⟨Hz, HT, Hts⟩, HR⟩, Ho⟩
    isplitl [HT]; · iexact HT
    isplitl [Hz Hts HR]
    · isplitl [Hz Hts]
      · isplitl [Hz]; · iexact Hz
        iexact Hts
      iexact HR
    unfold tls
    rw [Finset.Ico_eq_empty (by omega), Finset.Ico_eq_empty (by omega)]
    iexact Ho

end Cert.GatherMatmul

end
-- ==== Proof.Gemm.lean ====
/-
# The multiplying loop

Each trip waits for what it needs, brings one tile of gathered rows in, multiplies it by the device's columns of `w` and
sends the tile of the result out.
-/
module

public import proofs.«01_k».proof.Proof.Arrive

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-! ## The tile -/

def tFree : sProp 𝕄 := iprop(∃ f : S256x8192.Idx → Elt F .bf16, tLoc c ↦{fullShare} f)
def yFree : sProp 𝕄 := iprop(∃ f : S256x1024.Idx → Elt F .f32, yLoc c ↦{fullShare} f)
/-- 256 rows of the result, at contents `f`. -/
def oPts (T : ℕ) (f : S8192x1024.Idx → Elt F .f32) : sProp 𝕄 := oLoc c ↦[(rows 8192 1024 (256 * T) 256 : Finset (Idx (oLoc c)))]{fullShare} f
def oFree (T : ℕ) : sProp 𝕄 := iprop(∃ f, oPts (F := F) c T f)

theorem runs_loadTile (S : Finset (Fin 12)) (T : ℕ) (w : CWin 256) (hw : w.off = ![256 * T, 0]) :
    Runs c (pLoadTile w) iprop(levAts L lv ∗ owesS c S ∗ TT m c T ∗ tFree c ∗ zero c loadS)
      iprop(owesS c S ∗ zero c loadS ∗ (tLoc c ↦{fullShare} gtile m T)) := by
  intro Q
  unfold pLoadTile
  simp only [Prog.lift, Prog.bind_op, Prog.bind_ret]
  iintro ⟨#Hl, HO, HT, Ht, Hz⟩ Hk
  iapply (wp_loadTile m c T hw rfl) $$ [HT Ht Hz]
  · isplitl [HT]; · unfold TT; iexact HT
    isplitl [Ht]; · unfold tFree; iexact Ht
    iexact Hz
  iintro HF
  iapply (wp_waitL c (q := loadS) (by decide) rfl S (N := creditT) (srcw := w.mem) (dstw := (tM : Memref sig .tc .vmem S256x8192 .bf16)) rfl (hsrc := w.exact)) $$ [HO HF]
  · isplitr; · iexact Hl
    isplitl [HO]; · iexact HO
    unfold flT; iexact HF
  iintro H
  rw [wp_ret]; imodintro
  iapply Hk $$ H

theorem runs_outTile (S : Finset (Fin 12)) (T : ℕ) (o : OWin) (hw : o.off = ![256 * T, 0]) :
    Runs c (pOutTile o) iprop(levAts L lv ∗ owesS c S ∗ (yLoc c ↦{fullShare} ytile m c T) ∗ oFree c T ∗ zero c storeS)
      iprop(owesS c S ∗ zero c storeS ∗ oPts c T (result m c) ∗ yFree (F := F) c) := by
  intro Q
  unfold pOutTile
  simp only [Prog.lift, Prog.bind_op, Prog.bind_ret]
  iintro ⟨#Hl, HO, Hy, Ho, Hz⟩ Hk
  iapply (wp_outTile m c T hw rfl) $$ [Hy Ho Hz]
  · isplitl [Hy]; · iexact Hy
    isplitl [Ho]; · unfold oFree oPts; iexact Ho
    iexact Hz
  iintro HF
  iapply (wp_waitL c (q := storeS) (by decide) rfl S (N := creditY) (dstw := o.mem) rfl) $$ [HO HF]
  · isplitr; · iexact Hl
    isplitl [HO]; · iexact HO
    unfold flY; iexact HF
  iintro ⟨HO, Hz, Ho, Hy⟩
  rw [wp_ret]; imodintro
  iapply Hk
  isplitl [HO]; · iexact HO
  isplitl [Hz]; · iexact Hz
  isplitl [Ho]; · unfold oPts; iexact Ho
  unfold yFree; iexact Hy

theorem zero2 : (![0, 0] : Fin 2 → ℕ) = fun _ => 0 := by funext a; fin_cases a <;> rfl

theorem runs_multiply (T : ℕ) :
    Runs c (pMultiply wM) iprop((tLoc c ↦{fullShare} gtile m T) ∗ (wLoc c ↦{fullShare} wBlock m c) ∗ yFree (F := F) c)
      iprop(tFree (F := F) c ∗ (wLoc c ↦{fullShare} wBlock m c) ∗ (yLoc c ↦{fullShare} ytile m c T)) := by
  intro Q
  unfold pMultiply yFree
  simp only [Prog.lift, Prog.bind_op, Prog.bind_ret]
  iintro ⟨Ht, Hw, ⟨%f, Hy⟩⟩ Hk
  iapply (wp_load 𝒱₀ (c : Thread nD τ) none Set.univ (m := tM) (S := Finset.univ) (Finset.subset_univ _)) $$ Ht
  iintro Ht
  iapply (wp_load 𝒱₀ (c : Thread nD τ) none Set.univ (m := wM) (S := Finset.univ) (Finset.subset_univ _)) $$ Hw
  iintro Hw
  iapply (wp_load 𝒱₀ (c : Thread nD τ) none Set.univ (m := yM) (S := Finset.univ) (Finset.subset_univ _)) $$ Hy
  iintro Hy
  iapply (wp_store 𝒱₀ (c : Thread nD τ) none Set.univ (m := yM) (r := Rect.unit (s := S256x1024) ![0, 0] S256x1024.size inb_S256x1024_S256x1024_0_0) (Mk := Finset.univ) (S := Finset.univ) (f := f) (Finset.subset_univ _)) $$ Hy
  iintro Hy
  rw [wp_ret]; imodintro
  iapply Hk
  isplitl [Ht]; · unfold tFree; iexists (gtile m T); iexact Ht
  isplitl [Hw]; · iexact Hw
  have ev : (yM.access (Rect.unit (s := S256x1024) ![0, 0] S256x1024.size inb_S256x1024_S256x1024_0_0)).write (Elt F) f
      (k0_pay5 ((tM : Memref sig .tc .vmem S256x8192 .bf16).view.readAt (Elt F) (Rect.unit (s := S256x8192) ![0, 0] S256x8192.size inb_S256x8192_S256x8192_0_0).toLoadRect (gtile m T))
        ((wM : Memref sig .tc .vmem S8192x1024 .bf16).view.readAt (Elt F) (Rect.unit (s := S8192x1024) ![0, 0] S8192x1024.size inb_S8192x1024_S8192x1024_0_0).toLoadRect (wBlock m c)))
      Finset.univ = ytile m c T :=
    (Memref.write_access_unit_zero_univ (Elt F) cc0_scratch3 zero2 _ f _).trans
      (congrArg₂ k0_pay5 (Memref.readAt_unit_zero (Elt F) cc0_scratch2 zero2 _ (gtile m T)) (Memref.readAt_unit_zero (Elt F) cc0_stg0_0 zero2 _ (wBlock m c)))
  iapply (Entails.of_eq (congrArg (fun v => (yLoc c ↦{fullShare} v : sProp 𝕄)) ev)) $$ Hy

/-! ## The loop -/

/-- The result's rows: the tiles of the first `j` trips written, the others free. -/
def outs (j : ℕ) : sProp 𝕄 :=
  iprop((bigSep (Finset.range j) fun i => oPts c (tile c i) (result m c)) ∗ (bigSep (Finset.Ico j 32) fun i => oFree (F := F) c (tile c i)))
/-- The multiplier between two tiles. -/
def mult : sProp 𝕄 := iprop(tFree (F := F) c ∗ zero c loadS ∗ yFree (F := F) c ∗ zero c storeS ∗ (wLoc c ↦{fullShare} wBlock m c))

theorem sndJ_owes (a : ℕ) : sndJ m c a ⊢ iprop(owesS c (if a ≤ 8 then later else ∅) ∗ sndR m c (if a ≤ 8 then later else ∅)) := by
  unfold sndJ sndS; exact Entails.of_eq rfl
theorem owes_sndJ (a : ℕ) : iprop(owesS c (if a ≤ 8 then later else ∅) ∗ sndR m c (if a ≤ 8 then later else ∅)) ⊢ sndJ m c a := by
  unfold sndJ sndS; exact Entails.of_eq rfl

theorem tripTile_runs (k : Fin k0_t3_loop.trips) :
    Runs c (tripTile wM c k) iprop(levAts L lv ∗ sndJ m c (k.val + 1) ∗ TT m c (tile c k.val) ∗ mult m c ∗ outs m c k.val)
      iprop(sndJ m c (k.val + 1) ∗ mult m c ∗ outs m c (k.val + 1)) := by
  intro Q
  unfold tripTile mult outs
  simp only [wp_bind]
  rw [BI.bigSep_Ico_succ_bot (show k.val < 32 from k.isLt), Finset.range_eq_Ico, Finset.range_eq_Ico, BI.bigSep_Ico_succ_top (Nat.zero_le k.val)]
  iintro ⟨#Hl, HS, HT, ⟨Ht, Hzl, Hy, Hzs, Hw⟩, Hod, Hof, Hos⟩ Hk
  ihave HS := (sndJ_owes m c (k.val + 1)) $$ HS
  icases HS with ⟨HO, HS⟩
  iapply (runs_loadTile m c _ (tile c k.val) _ (off32_eq c k) _) $$ [HO HT Ht Hzl]
  · isplitr; · iexact Hl
    isplitl [HO]; · iexact HO
    isplitl [HT]; · iexact HT
    isplitl [Ht]; · iexact Ht
    iexact Hzl
  iintro ⟨HO, Hzl, Ht⟩
  iapply (runs_multiply m c (tile c k.val) _) $$ [Ht Hw Hy]
  · isplitl [Ht]; · iexact Ht
    isplitl [Hw]; · iexact Hw
    iexact Hy
  iintro ⟨Ht, Hw, Hy⟩
  iapply (runs_outTile m c _ (tile c k.val) _ (off33_eq c k) _) $$ [HO Hy Hof Hzs]
  · isplitr; · iexact Hl
    isplitl [HO]; · iexact HO
    isplitl [Hy]; · iexact Hy
    isplitl [Hof]; · iexact Hof
    iexact Hzs
  iintro ⟨HO, Hzs, Ho, Hy⟩
  iapply Hk
  isplitl [HO HS]
  · iapply (owes_sndJ m c (k.val + 1))
    isplitl [HO]; · iexact HO
    iexact HS
  isplitl [Ht Hzl Hy Hzs Hw]
  · isplitl [Ht]; · iexact Ht
    isplitl [Hzl]; · iexact Hzl
    isplitl [Hy]; · iexact Hy
    isplitl [Hzs]; · iexact Hzs
    iexact Hw
  isplitl [Ho Hod]
  · isplitl [Ho]; · iexact Ho
    iexact Hod
  iexact Hos

/-- What the loop keeps. -/
def gemmInv (j : ℕ) : sProp 𝕄 := iprop(sndJ m c j ∗ slots m c j ∅ ∗ tls m c j 8 ∗ outs m c j ∗ mult m c)

theorem trip_runs (k : Fin k0_t3_loop.trips) :
    Runs c (tripHead c k >>= fun _ => tripNeck c k >>= fun _ => tripTile wM c k) iprop(recs m K ∗ levAts L lv ∗ gemmInv m c k.val) (gemmInv m c (k.val + 1)) := by
  intro Q
  unfold gemmInv
  simp only [wp_bind]
  iintro ⟨#Hrec, #Hl, HS, HA, Ht, Ho, Hm⟩ Hk
  iapply (tripHead_runs m K c k _) $$ [HS HA]
  · isplitr; · iexact Hrec
    isplitr; · iexact Hl
    isplitl [HS]; · iexact HS
    iexact HA
  iintro ⟨HS, HA⟩
  iapply (tripNeck_runs m K c k _) $$ [HS HA]
  · isplitr; · iexact Hrec
    isplitr; · iexact Hl
    isplitl [HS]; · iexact HS
    iexact HA
  iintro ⟨HS, HA⟩
  ihave HT := (slots_tile m c k.val k.isLt) $$ [HA Ht]
  · isplitl [HA]; · iexact HA
    iexact Ht
  icases HT with ⟨HT, HA, Ht⟩
  iapply (tripTile_runs m c k _) $$ [HS HT Hm Ho]
  · isplitr; · iexact Hl
    isplitl [HS]; · iexact HS
    isplitl [HT]; · iexact HT
    isplitl [Hm]; · iexact Hm
    iexact Ho
  iintro ⟨HS, Hm, Ho⟩
  iapply Hk
  isplitl [HS]; · iexact HS
  isplitl [HA]; · iexact HA
  isplitl [Ht]; · iexact Ht
  isplitl [Ho]; · iexact Ho
  iexact Hm

/-- The loop multiplies all 32 tiles. -/
theorem t3_runs (h0 : xM.IsWhole) (h1 : wM.IsWhole) (h2 : oM.IsWhole) (h3 : gM.IsWhole) (h4 : aM.IsWhole) (h5 : bM.IsWhole)
    (h6 : tM.IsWhole) (h7 : yM.IsWhole) (v5 v7 v10 v11 v12 v13 : BitVec 32) :
    Runs c (Scf.Loop.for k0_t3_loop k0_t3_ok ⟨⟩ (k0_t3_body (F := F) xM h0 wM h1 oM h2 gM h3 aM h4 bM h5 tM h6 yM h7
        cc0_scratch4 cc0_scratch5 cc0_scratch6 cc0_scratch7 cc0_scratch8 cc0_scratch9 c v5 v7 v10 v11 v12 v13))
      iprop(recs m K ∗ levAts L lv ∗ gemmInv m c 0) (gemmInv m c 32) := by
  intro Q
  iintro H Hk
  iapply (Scf.wp_for frame (wpE (defs₀ (F := F)) 𝒱₀ (c : Thread nD τ) none) Set.univ _ _ _ k0_t3_ok ⟨⟩ _
    (fun k _ => iprop(recs m K ∗ levAts L lv ∗ gemmInv m c k)) (fun k u => ?_))
  · rw [t3_body_eq]
    iintro ⟨#Hrec, #Hl, H⟩
    iapply (trip_runs m K c k _) $$ [H]
    · isplitr; · iexact Hrec
      isplitr; · iexact Hl
      iexact H
    iintro H
    isplitr; · iexact Hrec
    isplitr; · iexact Hl
    iexact H
  · isplitl [H]; · iexact H
    iintro %u ⟨-, -, H⟩
    iapply Hk
    iexact H

end Cert.GatherMatmul

end
-- ==== Proof.Ends.lean ====
/-
# The meeting, the two halves and the last waits

A device first tells both neighbours that the rows they send land in free memory, and hears the same from them. Each half
of its rows is cast into the gathered copy, and then belongs to the transfers that carry it and to the trips that multiply
it. At the end the device waits until all it sent is out.
-/
module

public import proofs.«01_k».proof.Proof.Gemm
public import Idealize.ShloMosaic.Lib.Ring

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-! ## The meeting -/

/-- A device signals both neighbours and waits for both. -/
def pMeet : Prog (TpuEff nD τ sig (Elt F) Λ₀ .tc) PUnit := do
  semSignalWord (⟨k0_dev1 c, k0_dev1_lt c⟩ : Dev nD) (SemArray.scalar (sig.barrier 0 rfl) : Sems sig S_).sem 1#32
  semSignalWord (⟨k0_dev2 c, k0_dev2_lt c⟩ : Dev nD) (SemArray.scalar (sig.barrier 0 rfl) : Sems sig S_).sem 1#32
  semWaitWord (SemArray.scalar (sig.barrier 0 rfl) : Sems sig S_).sem 2#32

/-- The rows transfer `s` lands in at device `c`, free. -/
def freeAt (s : Fin 12) : sProp 𝕄 := iprop(∃ f, gPts (F := F) c (rRow s c) (len s) fullShare f)
theorem land_orig (s : Fin 12) : land (F := F) s (orig s c) = freeAt c s := by
  unfold land freeAt
  rw [← rRow_dst, dst_orig]
theorem barPay_prv : barPay (F := F) (prv c) true = bigSep (Finset.univ.filter fun s => toRight s = true) (freeAt c) := by
  unfold barPay
  refine bigSep_congr fun s hs => ?_
  rw [← land_orig]; unfold orig; rw [if_pos (Finset.mem_filter.mp hs).2]
theorem barPay_nxt : barPay (F := F) (nxt c) false = bigSep (Finset.univ.filter fun s => toRight s = false) (freeAt c) := by
  unfold barPay
  refine bigSep_congr fun s hs => ?_
  rw [← land_orig]; unfold orig; rw [if_neg (by rw [(Finset.mem_filter.mp hs).2]; decide)]
/-- A big sum over the transfers is one over those to the right and one over those to the left. -/
theorem bigSep_sides (Φ : Fin 12 → sProp 𝕄) : bigSep Finset.univ Φ
    = iprop(bigSep (Finset.univ.filter fun s => toRight s = true) Φ ∗ bigSep (Finset.univ.filter fun s => toRight s = false) Φ) := by
  rw [BI.bigSep_filter_split Finset.univ fun s => toRight s = true]
  have e : (Finset.univ.filter fun s : Fin 12 => ¬toRight s = true) = Finset.univ.filter fun s => toRight s = false := by decide
  rw [e]; rfl

theorem pMeet_runs :
    Runs c (pMeet c) iprop(recs m K ∗ levAts L lv ∗ (∃ W, owes (c : Thread nD τ) (O₀ c) W) ∗ dutyTok ER (barCell (prv c)) 0 true ∗ dutyTok ER (barCell (nxt c)) 0 false
        ∗ bigSep Finset.univ (freeAt (F := F) c) ∗ atPos ER (barCell c) 0 ∅ 0 ∗ cred (tallyAt (barCell c) () 2))
      iprop(owesS c Finset.univ ∗ semVal (barCell c) 0 ∗ bigSep Finset.univ fun s => land (F := F) s c) := by
  intro Q
  unfold pMeet
  simp only [semSignalWord, semWaitWord, Prog.bind_op, Prog.bind_ret]
  rw [bigSep_sides (freeAt (F := F) c), bigSep_sides fun s => land (F := F) s c,
    show (⟨k0_dev1 c, k0_dev1_lt c⟩ : Dev nD) = prv c from Fin.ext (k0_dev1_eq c), show (⟨k0_dev2 c, k0_dev2_lt c⟩ : Dev nD) = nxt c from Fin.ext (k0_dev2_eq c)]
  iintro ⟨#Hrec, #Hl, ⟨%W, HO⟩, Ht1, Ht2, ⟨Hp, Hn⟩, Hat, Hc⟩ Hk
  ihave #H1 := (recs_elim m K (prv c, .inl ())) $$ Hrec
  ihave #H2 := (recs_elim m K (nxt c, .inl ())) $$ Hrec
  ihave #H3 := (recs_elim m K (c, .inl ())) $$ Hrec
  icases H1 with ⟨#HI1, #Hr1⟩
  icases H2 with ⟨#HI2, #Hr2⟩
  icases H3 with ⟨#HI3, #Hr3⟩
  iapply (Rounds.wp_signal 𝒱₀ ER (Rd m) (c : Thread nD τ) none (dst := (prv c : Thread nD τ)) (sem := barS) (κ := K (prv c, .inl ())) (d := true)
      (by rw [show ((prv c : Thread nD τ), SemLoc.reg barS) = barCell (prv c) from rfl, Rd_duties]; exact Finset.mem_univ _)
      ((Rd_amount m (prv c) (.inl ()) true).trans (by decide)) () (O₁ c) rfl) $$ [HO Ht1 Hp]
  · isplitr; · iexact HI1
    isplitl [HO]; · iexact HO
    isplitl [Ht1]; · iexact Ht1
    isplitl [Hp]; · iapply (show _ ⊢ (Rd m).payload ((prv c : Thread nD τ), SemLoc.reg barS) 0 true from Entails.of_eq ((Rd_payload m (prv c) (.inl ()) true).trans (barPay_prv c)).symm) $$ Hp
    iexact Hr1
  iintro HO
  iapply (Rounds.wp_signal 𝒱₀ ER (Rd m) (c : Thread nD τ) none (dst := (nxt c : Thread nD τ)) (sem := barS) (κ := K (nxt c, .inl ())) (d := false)
      (by rw [show ((nxt c : Thread nD τ), SemLoc.reg barS) = barCell (nxt c) from rfl, Rd_duties]; exact Finset.mem_univ _)
      ((Rd_amount m (nxt c) (.inl ()) false).trans (by decide)) () (owed c Finset.univ) rfl) $$ [HO Ht2 Hn]
  · isplitr; · iexact HI2
    isplitl [HO]; · iexact HO
    isplitl [Ht2]; · iexact Ht2
    isplitl [Hn]; · iapply (show _ ⊢ (Rd m).payload ((nxt c : Thread nD τ), SemLoc.reg barS) 0 false from Entails.of_eq ((Rd_payload m (nxt c) (.inl ()) false).trans (barPay_nxt c)).symm) $$ Hn
    iexact Hr2
  iintro HO
  iapply (Rounds.wp_wait_rest_token 𝒱₀ ER (Rd m) (c : Thread nD τ) none (κ := K (c, .inl ())) (sm := .reg barS)
      (wpE_semWait_eq 𝒱₀ (c : Thread nD τ) none Set.univ) (Set.mem_univ _) () (O := owed c Finset.univ) (W := W) (R := 0) (m := 0) (T := ∅)
      (by rw [show ((c : Thread nD τ), SemLoc.reg barS) = barCell c from rfl, Rd_expect_bar]; decide)) $$ [HO Hat Hc]
  · isplitr; · iexact HI3
    isplitl [Hc]; · iexact Hc
    isplitl [HO]; · iexact HO
    isplitr; · iapply (mayWait_owed c (.reg barS) Finset.univ (by rw [show ((c : Thread nD τ), SemLoc.reg barS) = barCell c from rfl, lv_kcell]; decide)) $$ Hl
    iexact Hat
  iintro ⟨HO, Hat, -, Hpay⟩
  ihave Hpay := (show bigSep ((Rd m).duties ((c : Thread nD τ), SemLoc.reg barS) 0 \ ∅) (fun d => (Rd m).payload ((c : Thread nD τ), SemLoc.reg barS) 0 d) ⊢ iprop(barPay (F := F) c false ∗ barPay (F := F) c true) from Entails.of_eq (Rd_rest_bar m c)) $$ Hpay
  icases Hpay with ⟨Hf, Ht⟩
  imod (Rounds.cell_close ER (Rd m) (Set.mem_univ (K (c, .inl ()))) (fun h => h) (R := 0 + 1) (Rd_later m (barCell c))) $$ [Hat] with Hz
  · isplitr; · iexact HI3
    iexact Hat
  rw [wp_ret]; imodintro
  iapply Hk
  isplitl [HO]; · unfold owesS; iexists _; iexact HO
  isplitl [Hz]; · iexact Hz
  isplitl [Ht]
  · iapply (show barPay (F := F) c true ⊢ bigSep (Finset.univ.filter fun s => toRight s = true) (fun s => land s c) from Entails.of_eq rfl) $$ Ht
  · iapply (show barPay (F := F) c false ⊢ bigSep (Finset.univ.filter fun s => toRight s = false) (fun s => land s c) from Entails.of_eq rfl) $$ Hf

/-! ## A half of the rows -/

/-- Both double buffers free. -/
def slotsFree : sProp 𝕄 :=
  iprop((aFree (F := F) c 0 ∗ zero c (castS 0)) ∗ (aFree (F := F) c 1 ∗ zero c (castS 1)) ∗ (zero c (stageS 0) ∗ bFree (F := F) c 0) ∗ (zero c (stageS 1) ∗ bFree (F := F) c 1))

theorem half_start (q : PosShare TreeShare) (base : ℕ) (x : XWin) (hx : x.off = ![128 * base, 0]) :
    Runs c (pCastIn 0 x) iprop(slotsFree (F := F) c ∗ tilesX m c q base 0 ∗ places (F := F) c base 0) (castInv m c q base 0) := by
  intro Q
  unfold slotsFree tilesX castInv inSlot outSlot arrived
  rw [if_pos (by decide), if_pos rfl, if_pos rfl, BI.bigSep_Ico_succ_bot (show 0 < 8 by decide), Nat.mul_zero, Nat.zero_sub, Finset.range_zero, BI.bigSep_empty]
  iintro ⟨⟨⟨Ha0, Hz0⟩, ⟨Ha1, Hz1⟩, Hs0, Hs1⟩, ⟨Hx, Hxs⟩, Hp⟩ Hk
  iapply (runs_castIn m c 0 (base + 0) q x hx Q) $$ [Hx Ha0 Hz0]
  · isplitl [Hx]; · iexact Hx
    isplitl [Ha0]; · iexact Ha0
    iexact Hz0
  iintro HF
  iapply Hk
  isplitl [HF Hxs]
  · isplitl [HF]; · iexact HF
    unfold tilesX; iexact Hxs
  isplitl [Ha1]; · iexact Ha1
  isplitl [Hz1]; · iexact Hz1
  isplitl [Hs0]; · iexact Hs0
  isplitl [Hs1]; · iexact Hs1
  isplitr; · iempintro
  iexact Hp

/-- The last two tiles of a half arrive, and its rows are all cast. -/
theorem half_end (S : Finset (Fin 12)) (q : PosShare TreeShare) (base : ℕ) (g g' : GWin) :
    Runs c (pStageWait 0 g >>= fun _ => pStageWait 1 g') iprop(levAts L lv ∗ owesS c S ∗ castInv m c q base 4)
      iprop(owesS c S ∗ slotsFree (F := F) c ∗ gPts c (2048 * c.val + 128 * base) 1024 fullShare (gathered m)) := by
  intro Q
  simp only [wp_bind]
  iintro ⟨#Hl, HO, HI⟩ Hk
  ihave HI := (show castInv m c q base 4 ⊢ iprop((aFree (F := F) c 0 ∗ zero c (castS 0)) ∗ aFree (F := F) c 1 ∗ zero c (castS 1) ∗ flB m c 0 (base + 6) ∗ flB m c 1 (base + 7) ∗ arrived m c base 6 ∗ places c base 8) from Entails.of_eq rfl) $$ HI
  icases HI with ⟨Ha0, Ha1, Hz1, HF0, HF1, Har, -⟩
  iapply (runs_stageWait m c S 0 (base + 6) g _) $$ [HO HF0]
  · isplitr; · iexact Hl
    isplitl [HO]; · iexact HO
    iexact HF0
  iintro ⟨HO, Hs0, Hg0, Hb0⟩
  iapply (runs_stageWait m c S 1 (base + 7) g' _) $$ [HO HF1]
  · isplitr; · iexact Hl
    isplitl [HO]; · iexact HO
    iexact HF1
  iintro ⟨HO, Hs1, Hg1, Hb1⟩
  iapply Hk
  isplitl [HO]; · iexact HO
  isplitl [Ha0 Ha1 Hz1 Hs0 Hb0 Hs1 Hb1]
  · unfold slotsFree
    isplitl [Ha0]; · iexact Ha0
    isplitl [Ha1 Hz1]
    · isplitl [Ha1]; · iexact Ha1
      iexact Hz1
    isplitl [Hs0 Hb0]
    · isplitl [Hs0]; · iexact Hs0
      iexact Hb0
    isplitl [Hs1]; · iexact Hs1
    iexact Hb1
  have e : (bigSep (Finset.range 8) fun i => gPts c (2048 * c.val + 128 * base + 128 * i) 128 fullShare (gathered m) : sProp 𝕄)
      = iprop(gPts c (2048 * c.val + 128 * (base + 7)) 128 fullShare (gathered m) ∗ gPts c (2048 * c.val + 128 * (base + 6)) 128 fullShare (gathered m) ∗ arrived m c base 6) := by
    unfold arrived
    rw [bigSep_congr (s := Finset.range 8) (Ψ := fun i => gPts c (2048 * c.val + 128 * (base + i)) 128 fullShare (gathered m)) fun i _ => by
        rw [show 2048 * c.val + 128 * base + 128 * i = 2048 * c.val + 128 * (base + i) by omega],
      Finset.range_eq_Ico, Finset.range_eq_Ico, BI.bigSep_Ico_succ_top (show 0 ≤ 7 by decide), BI.bigSep_Ico_succ_top (show 0 ≤ 6 by decide)]
  iapply (gPts_chunks c fullShare (gathered m) (2048 * c.val + 128 * base) 128 8).2
  iapply (Entails.of_eq e.symm)
  isplitl [Hg1]; · iexact Hg1
  isplitl [Hg0]; · iexact Hg0
  iexact Har

/-- A quarter of the rows each, for transfers `b` to `b + 3`. -/
def quarters (b : ℕ) (hb : b + 4 ≤ 12) : sProp 𝕄 := bigSep Finset.univ fun i : Fin 4 => Src m ⟨b + i.val, by omega⟩ c

/-- A half of the rows: a share for transfer `s`, one for the trips from `j` on, and one for the four transfers from `b` on. -/
theorem half_shares (a : ℕ) (s : Fin 12) (j b : ℕ) (hb : b + 4 ≤ 12) (hs : sRow s c = a) (hl : len s = 1024) (hj : ∀ i, i < 4 → a + 256 * i = 256 * tile c (j + i))
    (hq : ∀ i : Fin 4, sRow ⟨b + i.val, by omega⟩ c = a + 256 * i.val ∧ len ⟨b + i.val, by omega⟩ = 256) :
    (gPts c a 1024 fullShare (gathered m) : sProp 𝕄) ⊢ iprop(Src m s c ∗ tls m c j (j + 4) ∗ quarters m c b hb) := by
  refine (gPts_share c fullShare (gathered m) a 1024).1.trans (BI.sep_mono ?_ ((gPts_share c _ (gathered m) a 1024).1.trans (BI.sep_mono (rows_tls m c a j 4 _ hj) ?_)))
  · unfold Src; rw [hs, hl]
    exact exists_intro (Φ := fun q => gPts c a 1024 q (gathered m)) _
  · refine (gPts_chunks c _ (gathered m) a 256 4).1.trans ?_
    unfold quarters
    rw [← Idealize.ShloMosaic.Ring.bigSep_fin_eq_range 4 (fun i => gPts c (a + 256 * i.val) 256 fullShare.right.right (gathered m)) _ fun _ _ => rfl]
    refine bigSep_mono fun i _ => ?_
    unfold Src; rw [(hq i).1, (hq i).2]
    exact exists_intro (Φ := fun q => gPts c (a + 256 * i.val) 256 q (gathered m)) _

theorem first_half : (gPts c (2048 * c.val + 128 * 0) 1024 fullShare (gathered m) : sProp 𝕄) ⊢ iprop(Src m 0 c ∗ tls m c 0 4 ∗ quarters m c 8 (by decide)) :=
  half_shares m c _ 0 0 8 (by decide) rfl rfl (by revert c; decide) (by revert c; decide)
theorem second_half : (gPts c (2048 * c.val + 128 * 8) 1024 fullShare (gathered m) : sProp 𝕄) ⊢ iprop(Src m 1 c ∗ tls m c 4 8 ∗ quarters m c 4 (by decide)) :=
  half_shares m c _ 1 4 4 (by decide) rfl rfl (by revert c; decide) (by revert c; decide)

/-! ## The last waits -/

/-- The transfers from the `n`th on. -/
def left (n : ℕ) : Finset (Fin 12) := Finset.univ.filter fun s => n ≤ s.val
/-- What is left of the transfers from the device while it has not waited for those in `S` yet. -/
def drained (S : Finset (Fin 12)) : sProp 𝕄 :=
  iprop(owesS (F := F) c ∅ ∗ bigSep S (fun s => Sent (F := F) s c) ∗ bigSep (Finset.univ \ S) (fun s => zero (F := F) c (sendS s)))

theorem runs_drain {n : ℕ} (s : Fin 12) (w : CWin n) (hn : n = len s) (S S' : Finset (Fin 12)) (hS : s ∈ S) (hS' : S.erase s = S') :
    Runs c (pSendWait s w) iprop(recs m K ∗ levAts L lv ∗ drained (F := F) c S) (drained (F := F) c S') := by
  subst hS'
  intro Q
  unfold drained
  have hs : s ∈ Finset.univ \ S.erase s := Finset.mem_sdiff.mpr ⟨Finset.mem_univ s, Finset.notMem_erase s S⟩
  rw [bigSep_take hS, bigSep_take hs, show (Finset.univ \ S.erase s).erase s = Finset.univ \ S from by
    ext x; simp only [Finset.mem_sdiff, Finset.mem_erase, Finset.mem_univ, true_and]
    exact ⟨fun h h' => h.2 ⟨h.1, h'⟩, fun h => ⟨fun h' => h (h' ▸ hS), fun h' => h h'.2⟩⟩]
  iintro ⟨#Hrec, #Hl, HO, ⟨Ht, HS⟩, Hz⟩ Hk
  iapply (runs_sendWait m K c s w hn _) $$ [HO Ht]
  · isplitr; · iexact Hrec
    isplitr; · iexact Hl
    isplitl [HO]; · iexact HO
    iexact Ht
  iintro ⟨HO, Hzs⟩
  iapply Hk
  isplitl [HO]; · iexact HO
  isplitl [HS]; · iexact HS
  isplitl [Hzs]; · iexact Hzs
  iexact Hz

/-- The waits for the departures. -/
def pDrain : Prog (TpuEff nD τ sig (Elt F) Λ₀ .tc) PUnit := do
  pSendWait 0 (⟨k0_off9 c, k0_off9_inb c, k0_off9_wordsbf16 c⟩ : CWin 1024)
  pSendWait 1 (⟨k0_off17 c, k0_off17_inb c, k0_off17_wordsbf16 c⟩ : CWin 1024)
  pSendWait 2 (⟨k0_off34 c, k0_off34_inb c, k0_off34_wordsbf16 c⟩ : CWin 1024)
  pSendWait 3 (⟨k0_off35 c, k0_off35_inb c, k0_off35_wordsbf16 c⟩ : CWin 1024)
  pSendWait 4 (⟨k0_off36 c 0#32, k0_off36_inb c 0, k0_off36_wordsbf16 c 0⟩ : CWin 256)
  pSendWait 5 (⟨k0_off36 c 256#32, k0_off36_inb c 1, k0_off36_wordsbf16 c 1⟩ : CWin 256)
  pSendWait 6 (⟨k0_off36 c 512#32, k0_off36_inb c 2, k0_off36_wordsbf16 c 2⟩ : CWin 256)
  pSendWait 7 (⟨k0_off36 c 768#32, k0_off36_inb c 3, k0_off36_wordsbf16 c 3⟩ : CWin 256)
  pSendWait 8 (⟨k0_off37 c 0#32, k0_off37_inb c 0, k0_off37_wordsbf16 c 0⟩ : CWin 256)
  pSendWait 9 (⟨k0_off37 c 256#32, k0_off37_inb c 1, k0_off37_wordsbf16 c 1⟩ : CWin 256)
  pSendWait 10 (⟨k0_off37 c 512#32, k0_off37_inb c 2, k0_off37_wordsbf16 c 2⟩ : CWin 256)
  pSendWait 11 (⟨k0_off37 c 768#32, k0_off37_inb c 3, k0_off37_wordsbf16 c 3⟩ : CWin 256)

set_option maxHeartbeats 800000 in
theorem pDrain_runs : Runs c (pDrain c) iprop(recs m K ∗ levAts L lv ∗ drained (F := F) c (left 0)) (drained (F := F) c (left 12)) := by
  intro Q
  unfold pDrain
  simp only [wp_bind]
  iintro ⟨#Hrec, #Hl, H⟩ Hk
  iapply (runs_drain m K c 0 _ rfl (left 0) (left 1) (by decide) (by decide) _) $$ [H]
  · isplitr; · iexact Hrec
    isplitr; · iexact Hl
    iexact H
  iintro H
  iapply (runs_drain m K c 1 _ rfl (left 1) (left 2) (by decide) (by decide) _) $$ [H]
  · isplitr; · iexact Hrec
    isplitr; · iexact Hl
    iexact H
  iintro H
  iapply (runs_drain m K c 2 _ rfl (left 2) (left 3) (by decide) (by decide) _) $$ [H]
  · isplitr; · iexact Hrec
    isplitr; · iexact Hl
    iexact H
  iintro H
  iapply (runs_drain m K c 3 _ rfl (left 3) (left 4) (by decide) (by decide) _) $$ [H]
  · isplitr; · iexact Hrec
    isplitr; · iexact Hl
    iexact H
  iintro H
  iapply (runs_drain m K c 4 _ rfl (left 4) (left 5) (by decide) (by decide) _) $$ [H]
  · isplitr; · iexact Hrec
    isplitr; · iexact Hl
    iexact H
  iintro H
  iapply (runs_drain m K c 5 _ rfl (left 5) (left 6) (by decide) (by decide) _) $$ [H]
  · isplitr; · iexact Hrec
    isplitr; · iexact Hl
    iexact H
  iintro H
  iapply (runs_drain m K c 6 _ rfl (left 6) (left 7) (by decide) (by decide) _) $$ [H]
  · isplitr; · iexact Hrec
    isplitr; · iexact Hl
    iexact H
  iintro H
  iapply (runs_drain m K c 7 _ rfl (left 7) (left 8) (by decide) (by decide) _) $$ [H]
  · isplitr; · iexact Hrec
    isplitr; · iexact Hl
    iexact H
  iintro H
  iapply (runs_drain m K c 8 _ rfl (left 8) (left 9) (by decide) (by decide) _) $$ [H]
  · isplitr; · iexact Hrec
    isplitr; · iexact Hl
    iexact H
  iintro H
  iapply (runs_drain m K c 9 _ rfl (left 9) (left 10) (by decide) (by decide) _) $$ [H]
  · isplitr; · iexact Hrec
    isplitr; · iexact Hl
    iexact H
  iintro H
  iapply (runs_drain m K c 10 _ rfl (left 10) (left 11) (by decide) (by decide) _) $$ [H]
  · isplitr; · iexact Hrec
    isplitr; · iexact Hl
    iexact H
  iintro H
  iapply (runs_drain m K c 11 _ rfl (left 11) (left 12) (by decide) (by decide) _) $$ [H]
  · isplitr; · iexact Hrec
    isplitr; · iexact Hl
    iexact H
  iintro H
  iapply Hk $$ H

end Cert.GatherMatmul

end
-- ==== Proof.Body.lean ====
/-
# The kernel body

The body in order: the meeting with the neighbours, each half of the rows cast and sent on, the trips that multiply while
rows arrive, and the waits for what was sent. It runs from its share of the launch to the result's rows, with every
semaphore it used at zero.
-/
module

public import proofs.«01_k».proof.Proof.Ends

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The body's text -/

/-- The wait for the last two tiles of a half, the first one. -/
def pLand0 (h3 : gM.IsWhole) (c : Dev nD) : Prog (TpuEff nD τ sig (Elt F) Λ₀ .tc) PUnit :=
  pStageWait 0 (⟨k0_off8 c 0#32 768#32, k0_off8_inb c 0 0, h3.wordExact_slice rfl _ (k0_off8_wordsbf16 c 0 0)⟩ : GWin) >>= fun _ =>
    pStageWait 1 (⟨k0_off8 c 0#32 896#32, k0_off8_inb c 0 1, h3.wordExact_slice rfl _ (k0_off8_wordsbf16 c 0 1)⟩ : GWin)
/-- The same for the second half. -/
def pLand1 (h3 : gM.IsWhole) (c : Dev nD) : Prog (TpuEff nD τ sig (Elt F) Λ₀ .tc) PUnit :=
  pStageWait 0 (⟨k0_off8 c 1024#32 768#32, k0_off8_inb c 1 0, h3.wordExact_slice rfl _ (k0_off8_wordsbf16 c 1 0)⟩ : GWin) >>= fun _ =>
    pStageWait 1 (⟨k0_off8 c 1024#32 896#32, k0_off8_inb c 1 1, h3.wordExact_slice rfl _ (k0_off8_wordsbf16 c 1 1)⟩ : GWin)

set_option maxRecDepth 65536 in
/-- The first part: the meeting, and some words computed from the device. -/
theorem part11_eq (h0 : xM.IsWhole) (h1 : wM.IsWhole) (h2 : oM.IsWhole) (h3 : gM.IsWhole) (h4 : aM.IsWhole) (h5 : bM.IsWhole) (h6 : tM.IsWhole) (h7 : yM.IsWhole) : ∃ f5 f7 f10 f11 f12 f13 : Dev nD → BitVec 32,
    k0_part11 (F := F) xM h0 wM h1 oM h2 gM h3 aM h4 bM h5 tM h6 yM h7 cc0_scratch4 cc0_scratch5 cc0_scratch6 cc0_scratch7 cc0_scratch8 cc0_scratch9
      = .op .deviceId fun c => pMeet c >>= fun _ => .ret ⟨c, f5 c, f7 c, f10 c, f11 c, f12 c, f13 c⟩ := by
  iterate 6 apply Exists.intro
  rw [k0_part11_eq_skeleton]
  unfold k0_part11_skel pMeet
  simp only [semSignalWord, semWaitWord, Prog.lift, Prog.bind_op, Prog.bind_ret, Prog.pure_eq_ret, Prog.bind_assoc]
  rfl

set_option maxRecDepth 65536 in
theorem part12_eq (h0 : xM.IsWhole) (h1 : wM.IsWhole) (h2 : oM.IsWhole) (h3 : gM.IsWhole) (h4 : aM.IsWhole) (h5 : bM.IsWhole) (h6 : tM.IsWhole) (h7 : yM.IsWhole) (c : Dev nD) (v10 v11 v12 v13 : BitVec 32) :
    k0_part12 (F := F) xM h0 wM h1 oM h2 gM h3 aM h4 bM h5 tM h6 yM h7 cc0_scratch4 cc0_scratch5 cc0_scratch6 cc0_scratch7 cc0_scratch8 cc0_scratch9 c v10 v11 v12 v13
      = pCastIn 0 (⟨![0, 0], inb_S2048x8192_S128x8192_0_0⟩ : XWin) >>= fun _ =>
        Scf.Loop.for k0_t1_loop k0_t1_ok ⟨⟩ (k0_t1_body xM h0 wM h1 oM h2 gM h3 aM h4 bM h5 tM h6 yM h7 cc0_scratch4 cc0_scratch5 cc0_scratch6 cc0_scratch7 cc0_scratch8 cc0_scratch9 c v10 v11 v12 v13) >>= fun _ => .ret (Scalar.addi v10 0#32) := by
  rw [k0_part12_eq_skeleton]
  unfold k0_part12_skel pCastIn
  simp only [semSignalWord, semWaitWord, Prog.lift, Prog.bind_op, Prog.bind_ret, Prog.pure_eq_ret, Prog.bind_assoc]
  rfl

set_option maxRecDepth 65536 in
theorem part13_eq (h0 : xM.IsWhole) (h1 : wM.IsWhole) (h2 : oM.IsWhole) (h3 : gM.IsWhole) (h4 : aM.IsWhole) (h5 : bM.IsWhole) (h6 : tM.IsWhole) (h7 : yM.IsWhole) (c : Dev nD) (v7 v10 v53 : BitVec 32) :
    k0_part13 (F := F) xM h0 wM h1 oM h2 gM h3 aM h4 bM h5 tM h6 yM h7 cc0_scratch4 cc0_scratch5 cc0_scratch6 cc0_scratch7 cc0_scratch8 cc0_scratch9 c v7 v10 v53
      = pLand0 h3 c >>= fun _ => pSend 0 (⟨k0_dev3 c, k0_dev3_lt c⟩ : Dev nD) (⟨k0_off9 c, k0_off9_inb c, k0_off9_wordsbf16 c⟩ : CWin 1024) >>= fun _ =>
        pCastIn 0 (⟨![1024, 0], inb_S2048x8192_S128x8192_1024_0⟩ : XWin) >>= fun _ =>
        Scf.Loop.for k0_t2_loop k0_t2_ok ⟨⟩ (k0_t2_body xM h0 wM h1 oM h2 gM h3 aM h4 bM h5 tM h6 yM h7 cc0_scratch4 cc0_scratch5 cc0_scratch6 cc0_scratch7 cc0_scratch8 cc0_scratch9 c v7 v10 v53) >>= fun _ => .ret ⟨⟩ := by
  rw [k0_part13_eq_skeleton]
  unfold k0_part13_skel pLand0 pStageWait pSend pCastIn
  simp only [semSignalWord, semWaitWord, Prog.lift, Prog.bind_op, Prog.bind_ret, Prog.pure_eq_ret, Prog.bind_assoc]
  rfl

set_option maxRecDepth 65536 in
theorem part14_eq (h0 : xM.IsWhole) (h1 : wM.IsWhole) (h2 : oM.IsWhole) (h3 : gM.IsWhole) (h4 : aM.IsWhole) (h5 : bM.IsWhole) (h6 : tM.IsWhole) (h7 : yM.IsWhole) (c : Dev nD) (v5 v10 : BitVec 32) :
    k0_part14 (F := F) xM h0 wM h1 oM h2 gM h3 aM h4 bM h5 tM h6 yM h7 cc0_scratch4 cc0_scratch5 cc0_scratch6 cc0_scratch7 cc0_scratch8 cc0_scratch9 c v5 v10
      = pLand1 h3 c >>= fun _ => pSend 1 (⟨k0_dev4 c, k0_dev4_lt c⟩ : Dev nD) (⟨k0_off17 c, k0_off17_inb c, k0_off17_wordsbf16 c⟩ : CWin 1024) := by
  rw [k0_part14_eq_skeleton]
  unfold k0_part14_skel pLand1 pStageWait pSend
  simp only [semSignalWord, semWaitWord, Prog.lift, Prog.bind_op, Prog.bind_ret, Prog.pure_eq_ret, Prog.bind_assoc]
  rfl

/-- The waits for the departures of the first two transfers. -/
def pDrain0 (c : Dev nD) : Prog (TpuEff nD τ sig (Elt F) Λ₀ .tc) PUnit := do
  pSendWait 0 (⟨k0_off9 c, k0_off9_inb c, k0_off9_wordsbf16 c⟩ : CWin 1024)
  pSendWait 1 (⟨k0_off17 c, k0_off17_inb c, k0_off17_wordsbf16 c⟩ : CWin 1024)
/-- Of the next six. -/
def pDrain1 (c : Dev nD) : Prog (TpuEff nD τ sig (Elt F) Λ₀ .tc) PUnit := do
  pSendWait 2 (⟨k0_off34 c, k0_off34_inb c, k0_off34_wordsbf16 c⟩ : CWin 1024)
  pSendWait 3 (⟨k0_off35 c, k0_off35_inb c, k0_off35_wordsbf16 c⟩ : CWin 1024)
  pSendWait 4 (⟨k0_off36 c 0#32, k0_off36_inb c 0, k0_off36_wordsbf16 c 0⟩ : CWin 256)
  pSendWait 5 (⟨k0_off36 c 256#32, k0_off36_inb c 1, k0_off36_wordsbf16 c 1⟩ : CWin 256)
  pSendWait 6 (⟨k0_off36 c 512#32, k0_off36_inb c 2, k0_off36_wordsbf16 c 2⟩ : CWin 256)
  pSendWait 7 (⟨k0_off36 c 768#32, k0_off36_inb c 3, k0_off36_wordsbf16 c 3⟩ : CWin 256)
/-- Of the last four. -/
def pDrain2 (c : Dev nD) : Prog (TpuEff nD τ sig (Elt F) Λ₀ .tc) PUnit := do
  pSendWait 8 (⟨k0_off37 c 0#32, k0_off37_inb c 0, k0_off37_wordsbf16 c 0⟩ : CWin 256)
  pSendWait 9 (⟨k0_off37 c 256#32, k0_off37_inb c 1, k0_off37_wordsbf16 c 1⟩ : CWin 256)
  pSendWait 10 (⟨k0_off37 c 512#32, k0_off37_inb c 2, k0_off37_wordsbf16 c 2⟩ : CWin 256)
  pSendWait 11 (⟨k0_off37 c 768#32, k0_off37_inb c 3, k0_off37_wordsbf16 c 3⟩ : CWin 256)
theorem pDrain_eq (c : Dev nD) : pDrain (F := F) c = pDrain0 c >>= fun _ => pDrain1 c >>= fun _ => pDrain2 c := by
  unfold pDrain pDrain0 pDrain1 pDrain2
  simp only [Prog.bind_assoc]

set_option maxRecDepth 65536 in
theorem part15_eq (h0 : xM.IsWhole) (h1 : wM.IsWhole) (h2 : oM.IsWhole) (h3 : gM.IsWhole) (h4 : aM.IsWhole) (h5 : bM.IsWhole) (h6 : tM.IsWhole) (h7 : yM.IsWhole) (c : Dev nD) (v5 v7 v10 v11 v12 v13 : BitVec 32) :
    k0_part15 (F := F) xM h0 wM h1 oM h2 gM h3 aM h4 bM h5 tM h6 yM h7 cc0_scratch4 cc0_scratch5 cc0_scratch6 cc0_scratch7 cc0_scratch8 cc0_scratch9 c v5 v7 v10 v11 v12 v13
      = Scf.Loop.for k0_t3_loop k0_t3_ok ⟨⟩ (k0_t3_body xM h0 wM h1 oM h2 gM h3 aM h4 bM h5 tM h6 yM h7 cc0_scratch4 cc0_scratch5 cc0_scratch6 cc0_scratch7 cc0_scratch8 cc0_scratch9 c v5 v7 v10 v11 v12 v13) >>= fun _ => pDrain0 c := by
  rw [k0_part15_eq_skeleton]
  unfold k0_part15_skel pDrain0 pSendWait
  simp only [semSignalWord, semWaitWord, Prog.lift, Prog.bind_op, Prog.bind_ret, Prog.pure_eq_ret, Prog.bind_assoc]
  rfl

set_option maxRecDepth 65536 in
theorem part16_eq (h0 : xM.IsWhole) (h1 : wM.IsWhole) (h2 : oM.IsWhole) (h3 : gM.IsWhole) (h4 : aM.IsWhole) (h5 : bM.IsWhole) (h6 : tM.IsWhole) (h7 : yM.IsWhole) (c : Dev nD) : k0_part16 (F := F) xM h0 wM h1 oM h2 gM h3 aM h4 bM h5 tM h6 yM h7 cc0_scratch4 cc0_scratch5 cc0_scratch6 cc0_scratch7 cc0_scratch8 cc0_scratch9 c = pDrain1 c := by
  rw [k0_part16_eq_skeleton]
  unfold k0_part16_skel pDrain1 pSendWait
  simp only [semSignalWord, semWaitWord, Prog.lift, Prog.bind_op, Prog.bind_ret, Prog.pure_eq_ret, Prog.bind_assoc]
  rfl

/-- The body on device `c`, over the words the loops' bodies are printed with. -/
def pBody (h0 : xM.IsWhole) (h1 : wM.IsWhole) (h2 : oM.IsWhole) (h3 : gM.IsWhole) (h4 : aM.IsWhole) (h5 : bM.IsWhole) (h6 : tM.IsWhole) (h7 : yM.IsWhole) (c : Dev nD) (v5 v7 v10 v11 v12 v13 v53 : BitVec 32) :
    Prog (TpuEff nD τ sig (Elt F) Λ₀ .tc) PUnit := do
  pMeet c
  pCastIn 0 (⟨![0, 0], inb_S2048x8192_S128x8192_0_0⟩ : XWin)
  Scf.Loop.for k0_t1_loop k0_t1_ok ⟨⟩ (k0_t1_body xM h0 wM h1 oM h2 gM h3 aM h4 bM h5 tM h6 yM h7 cc0_scratch4 cc0_scratch5 cc0_scratch6 cc0_scratch7 cc0_scratch8 cc0_scratch9 c v10 v11 v12 v13)
  pLand0 h3 c
  pSend 0 (⟨k0_dev3 c, k0_dev3_lt c⟩ : Dev nD) (⟨k0_off9 c, k0_off9_inb c, k0_off9_wordsbf16 c⟩ : CWin 1024)
  pCastIn 0 (⟨![1024, 0], inb_S2048x8192_S128x8192_1024_0⟩ : XWin)
  Scf.Loop.for k0_t2_loop k0_t2_ok ⟨⟩ (k0_t2_body xM h0 wM h1 oM h2 gM h3 aM h4 bM h5 tM h6 yM h7 cc0_scratch4 cc0_scratch5 cc0_scratch6 cc0_scratch7 cc0_scratch8 cc0_scratch9 c v7 v10 v53)
  pLand1 h3 c
  pSend 1 (⟨k0_dev4 c, k0_dev4_lt c⟩ : Dev nD) (⟨k0_off17 c, k0_off17_inb c, k0_off17_wordsbf16 c⟩ : CWin 1024)
  Scf.Loop.for k0_t3_loop k0_t3_ok ⟨⟩ (k0_t3_body xM h0 wM h1 oM h2 gM h3 aM h4 bM h5 tM h6 yM h7 cc0_scratch4 cc0_scratch5 cc0_scratch6 cc0_scratch7 cc0_scratch8 cc0_scratch9 c v5 v7 v10 v11 v12 v13)
  pDrain c

set_option maxRecDepth 65536 in
/-- The printed body asks for its device and then runs as above, for some words computed from the device. -/
theorem body_eq (h0 : xM.IsWhole) (h1 : wM.IsWhole) (h2 : oM.IsWhole) (h3 : gM.IsWhole) (h4 : aM.IsWhole) (h5 : bM.IsWhole) (h6 : tM.IsWhole) (h7 : yM.IsWhole) : ∃ f5 f7 f10 f11 f12 f13 f53 : Dev nD → BitVec 32,
    cc0_body (F := F) xM h0 wM h1 oM h2 gM h3 aM h4 bM h5 tM h6 yM h7 cc0_scratch4 cc0_scratch5 cc0_scratch6 cc0_scratch7 cc0_scratch8 cc0_scratch9
      = .op .deviceId fun c => pBody h0 h1 h2 h3 h4 h5 h6 h7 c (f5 c) (f7 c) (f10 c) (f11 c) (f12 c) (f13 c) (f53 c) := by
  obtain ⟨f5, f7, f10, f11, f12, f13, e⟩ := part11_eq (F := F) h0 h1 h2 h3 h4 h5 h6 h7
  refine ⟨f5, f7, f10, f11, f12, f13, fun c => Scalar.addi (f10 c) 0#32, ?_⟩
  rw [cc0_body_eq_skeleton]
  unfold cc0_body_skel
  simp only [e, part12_eq, part13_eq, part14_eq, part15_eq, part16_eq, Prog.bind_op, Prog.bind_ret, Prog.bind_assoc]
  unfold pBody
  simp only [pDrain_eq, Prog.bind_assoc]
  unfold pDrain2 pSendWait
  simp only [Prog.lift, Prog.bind_op, Prog.bind_ret, Prog.pure_eq_ret]
  rfl

/-! ## What it holds at the start and at the end -/

variable (m : (ℓ : Loc nD τ sig) → Buf (Elt F) ℓ) (K : Dev nD × Ck → ℕ) (c : Dev nD)

/-- The right to start transfer `s`, less the room it lands in. -/
def startAt (s : Fin 12) : sProp 𝕄 :=
  iprop(dutyTok ER (sendCell s c) 0 false ∗ dutyTok ER (recvCell s (dst s c)) 0 false ∗ atPos ER (sendCell s c) 0 ∅ 0)

theorem startAt_land : (iprop(bigSep Finset.univ (startAt (F := F) c) ∗ bigSep Finset.univ fun s => land (F := F) s c) : sProp 𝕄)
    ⊢ iprop(SendR (F := F) 0 c ∗ SendR (F := F) 1 c ∗ bigSep later fun s => SendR (F := F) s c) := by
  rw [← bigSep_sep']
  refine (bigSep_mono (Ψ := fun s => SendR (F := F) s c) fun s _ => ?_).trans ?_
  · show iprop(startAt c s ∗ land s c) ⊢ SendR (F := F) s c
    unfold startAt SendR
    iintro ⟨⟨H1, H2, H3⟩, H4⟩
    isplitl [H1]; · iexact H1
    isplitl [H2]; · iexact H2
    isplitl [H4]; · iexact H4
    iexact H3
  · have h0 : (0 : Fin 12) ∈ (Finset.univ : Finset (Fin 12)) := Finset.mem_univ _
    have h1 : (1 : Fin 12) ∈ (Finset.univ : Finset (Fin 12)).erase 0 := by decide
    have h2 : ((Finset.univ : Finset (Fin 12)).erase 0).erase 1 = later := by decide
    rw [bigSep_take h0, bigSep_take h1, h2]
    show iprop(SendR (F := F) 0 c ∗ SendR (F := F) 1 c ∗ bigSep later fun s => SendR (F := F) s c) ⊢ iprop(SendR (F := F) 0 c ∗ SendR (F := F) 1 c ∗ bigSep later fun s => SendR (F := F) s c)
    exact Entails.of_eq rfl

/-- The sources of transfers 4 to 11. -/
theorem quarters_later : (iprop(quarters m c 4 (by decide) ∗ quarters m c 8 (by decide)) : sProp 𝕄)
    ⊢ bigSep later fun s : Fin 12 => (if 4 ≤ s.val then Src m s c else iprop(emp)) := by
  unfold quarters
  rw [bigSep_univ_eq_bigSepL [0, 1, 2, 3] (by decide) (by decide), bigSep_univ_eq_bigSepL [0, 1, 2, 3] (by decide) (by decide),
    bigSep_eq_bigSepL_of_eq [2, 3, 4, 5, 6, 7, 8, 9, 10, 11] (by decide) (by decide)]
  show iprop((Src m 4 c ∗ Src m 5 c ∗ Src m 6 c ∗ Src m 7 c) ∗ (Src m 8 c ∗ Src m 9 c ∗ Src m 10 c ∗ Src m 11 c))
    ⊢ iprop(emp ∗ emp ∗ Src m 4 c ∗ Src m 5 c ∗ Src m 6 c ∗ Src m 7 c ∗ Src m 8 c ∗ Src m 9 c ∗ Src m 10 c ∗ Src m 11 c)
  iintro ⟨⟨H4, H5, H6, H7⟩, H8⟩
  isplitr; · iempintro
  isplitr; · iempintro
  isplitl [H4]; · iexact H4
  isplitl [H5]; · iexact H5
  isplitl [H6]; · iexact H6
  isplitl [H7]; · iexact H7
  iexact H8

/-- Nothing of transfers 2 to 11 is started before the trips. -/
theorem sndJ_start : (iprop(owesS (F := F) c later ∗ (bigSep later fun s => SendR (F := F) s c) ∗ quarters m c 4 (by decide) ∗ quarters m c 8 (by decide)) : sProp 𝕄)
    ⊢ sndJ m c 0 := by
  have e : later \ later = ∅ := by decide
  unfold sndJ sndS sndR
  rw [if_pos (by decide), e, BI.bigSep_empty, bigSep_sep']
  iintro ⟨HO, HS, HQ⟩
  isplitl [HO]; · iexact HO
  isplitl [HS HQ]
  · isplitl [HS]; · iexact HS
    iapply (quarters_later m c) $$ HQ
  iempintro

/-- After the trips all of them are started. -/
theorem sndJ_end : (iprop(Sent (F := F) 0 c ∗ Sent (F := F) 1 c ∗ sndJ m c 32) : sProp 𝕄) ⊢ drained (F := F) c (left 0) := by
  have h0 : (0 : Fin 12) ∈ left 0 := by decide
  have h1 : (1 : Fin 12) ∈ (left 0).erase 0 := by decide
  have h2 : ((left 0).erase 0).erase 1 = later := by decide
  have e : (Finset.univ : Finset (Fin 12)) \ left 0 = ∅ := by decide
  have e' : later \ (∅ : Finset (Fin 12)) = later := by decide
  unfold sndJ sndS sndR drained
  rw [if_neg (by decide), e, e', BI.bigSep_empty, BI.bigSep_empty, bigSep_take h0, bigSep_take h1, h2]
  iintro ⟨H0, H1, HO, -, HS⟩
  isplitl [HO]; · iexact HO
  isplitl [H0 H1 HS]
  · isplitl [H0]; · iexact H0
    isplitl [H1]; · iexact H1
    iexact HS
  iempintro

theorem slots_start : (bigSep Finset.univ (fun s => pend (F := F) s c) : sProp 𝕄) ⊢ slots m c 0 ∅ := by
  unfold slots
  refine bigSep_mono fun s _ => ?_
  rw [if_neg (Finset.notMem_empty s), slotAt_pend m c s 0 0 (Nat.zero_le _)]
  show pend (F := F) s c ⊢ pend s c
  exact Entails.of_eq rfl
theorem slots_end : (slots m c 32 ∅ : sProp 𝕄) ⊢ bigSep Finset.univ fun s => zero (F := F) c (recvS s) := by
  unfold slots
  refine bigSep_mono fun s _ => ?_
  rw [if_neg (Finset.notMem_empty s)]
  unfold slotAt
  rw [if_pos (show due s < 32 by revert s; decide)]
  exact (show iprop(zero (F := F) c (recvS s) ∗ tls m c (max 32 (lo s)) (lo s + cnt s)) ⊢ zero (F := F) c (recvS s) from sep_elim_left)

theorem pLand0_runs (h3 : gM.IsWhole) (q : PosShare TreeShare) : Runs c (pLand0 h3 c) iprop(levAts L lv ∗ owesS c Finset.univ ∗ castInv m c q 0 4)
    iprop(owesS c Finset.univ ∗ slotsFree (F := F) c ∗ gPts c (2048 * c.val + 128 * 0) 1024 fullShare (gathered m)) := half_end m c Finset.univ q 0 _ _
theorem pLand1_runs (h3 : gM.IsWhole) (q : PosShare TreeShare) : Runs c (pLand1 h3 c) iprop(levAts L lv ∗ owesS c (Finset.univ.erase 0) ∗ castInv m c q 8 4)
    iprop(owesS c (Finset.univ.erase 0) ∗ slotsFree (F := F) c ∗ gPts c (2048 * c.val + 128 * 8) 1024 fullShare (gathered m)) := half_end m c (Finset.univ.erase 0) q 8 _ _

/-- What the body takes. -/
def bodyIn (q : PosShare TreeShare) : sProp 𝕄 :=
  iprop((∃ W, owes (c : Thread nD τ) (O₀ c) W) ∗ (dutyTok ER (barCell (prv c)) 0 true ∗ dutyTok ER (barCell (nxt c)) 0 false)
    ∗ bigSep Finset.univ (freeAt (F := F) c) ∗ (atPos ER (barCell c) 0 ∅ 0 ∗ cred (tallyAt (barCell c) () 2))
    ∗ bigSep Finset.univ (startAt (F := F) c) ∗ (bigSep Finset.univ fun s => pend (F := F) s c)
    ∗ slotsFree (F := F) c ∗ (tilesX m c q 0 0 ∗ places (F := F) c 0 0) ∗ (tilesX m c q 8 0 ∗ places (F := F) c 8 0)
    ∗ outs m c 0 ∗ mult m c)
/-- What it leaves. -/
def bodyOut : sProp 𝕄 :=
  iprop(owesS (F := F) c ∅ ∗ semVal (barCell c) 0 ∗ (bigSep Finset.univ fun s => zero (F := F) c (sendS s)) ∗ (bigSep Finset.univ fun s => zero (F := F) c (recvS s))
    ∗ slotsFree (F := F) c ∗ outs m c 32 ∗ mult m c)

set_option maxHeartbeats 2000000 in
theorem pBody_runs (h0 : xM.IsWhole) (h1 : wM.IsWhole) (h2 : oM.IsWhole) (h3 : gM.IsWhole) (h4 : aM.IsWhole) (h5 : bM.IsWhole) (h6 : tM.IsWhole) (h7 : yM.IsWhole) (v5 v7 v10 v11 v12 v13 v53 : BitVec 32) (q : PosShare TreeShare) :
    Runs c (pBody h0 h1 h2 h3 h4 h5 h6 h7 c v5 v7 v10 v11 v12 v13 v53) iprop(recs m K ∗ levAts L lv ∗ bodyIn m c q) (bodyOut m c) := by
  intro Q
  unfold pBody bodyIn
  simp only [wp_bind]
  iintro ⟨#Hrec, #Hl, HO, ⟨Ht1, Ht2⟩, Hfree, ⟨Hbat, Hbc⟩, Hst, Hpend, Hsl, ⟨Hx0, Hp0⟩, ⟨Hx1, Hp1⟩, Hout, Hmul⟩ Hk
  iapply (pMeet_runs m K c _) $$ [HO Ht1 Ht2 Hfree Hbat Hbc]
  · isplitr; · iexact Hrec
    isplitr; · iexact Hl
    isplitl [HO]; · iexact HO
    isplitl [Ht1]; · iexact Ht1
    isplitl [Ht2]; · iexact Ht2
    isplitl [Hfree]; · iexact Hfree
    isplitl [Hbat]; · iexact Hbat
    iexact Hbc
  iintro ⟨HO, Hbz, Hland⟩
  iapply (half_start m c q 0 _ rfl _) $$ [Hsl Hx0 Hp0]
  · isplitl [Hsl]; · iexact Hsl
    isplitl [Hx0]; · iexact Hx0
    iexact Hp0
  iintro HC
  iapply (t1_runs m c wM h0 h1 h2 h3 h4 h5 h6 h7 v10 v11 v12 v13 Finset.univ q _) $$ [HO HC]
  · isplitr; · iexact Hl
    isplitl [HO]; · iexact HO
    iexact HC
  iintro ⟨HO, HC⟩

  iapply (pLand0_runs m c h3 q _) $$ [HO HC]
  · isplitr; · iexact Hl
    isplitl [HO]; · iexact HO
    iexact HC
  iintro ⟨HO, Hsl, Hg⟩
  ihave Hg := (first_half m c) $$ Hg
  icases Hg with ⟨Hsrc0, Htl0, Hq8⟩
  ihave HS := (startAt_land c) $$ [Hst Hland]
  · isplitl [Hst]; · iexact Hst
    iexact Hland
  icases HS with ⟨HS0, HS1, HS⟩
  iapply (runs_send m K c 0 _ _ (Fin.ext (k0_dev3_eq c)) ((k0_off9_eq c).trans (row_eq rfl)) rfl Finset.univ (Finset.mem_univ _) _) $$ [HO HS0 Hsrc0]
  · isplitr; · iexact Hrec
    isplitl [HO]; · iexact HO
    isplitl [HS0]; · iexact HS0
    iexact Hsrc0
  iintro ⟨HO, Hsent0⟩
  iapply (half_start m c q 8 _ rfl _) $$ [Hsl Hx1 Hp1]
  · isplitl [Hsl]; · iexact Hsl
    isplitl [Hx1]; · iexact Hx1
    iexact Hp1
  iintro HC
  iapply (t2_runs m c wM h0 h1 h2 h3 h4 h5 h6 h7 v7 v10 v53 (Finset.univ.erase 0) q _) $$ [HO HC]
  · isplitr; · iexact Hl
    isplitl [HO]; · iexact HO
    iexact HC
  iintro ⟨HO, HC⟩
  iapply (pLand1_runs m c h3 q _) $$ [HO HC]
  · isplitr; · iexact Hl
    isplitl [HO]; · iexact HO
    iexact HC
  iintro ⟨HO, Hsl, Hg⟩
  ihave Hg := (second_half m c) $$ Hg
  icases Hg with ⟨Hsrc1, Htl1, Hq4⟩
  iapply (runs_send m K c 1 _ _ (Fin.ext (k0_dev4_eq c)) ((k0_off17_eq c).trans (row_eq rfl)) rfl (Finset.univ.erase 0) (by decide) _) $$ [HO HS1 Hsrc1]
  · isplitr; · iexact Hrec
    isplitl [HO]; · iexact HO
    isplitl [HS1]; · iexact HS1
    iexact Hsrc1
  rw [show ((Finset.univ : Finset (Fin 12)).erase 0).erase 1 = later by decide]
  iintro ⟨HO, Hsent1⟩
  have htls : tls m c 0 8 = iprop(tls m c 0 4 ∗ tls m c 4 8) := by
    unfold tls
    rw [← Finset.Ico_union_Ico_eq_Ico (show 0 ≤ 4 by decide) (show 4 ≤ 8 by decide)]
    exact BI.bigSep_union (by decide)
  iapply (t3_runs m K c h0 h1 h2 h3 h4 h5 h6 h7 v5 v7 v10 v11 v12 v13 _) $$ [HO HS Hq4 Hq8 Hpend Htl0 Htl1 Hout Hmul]
  · isplitr; · iexact Hrec
    isplitr; · iexact Hl
    unfold gemmInv
    isplitl [HO HS Hq4 Hq8]
    · iapply (sndJ_start m c)
      isplitl [HO]; · iexact HO
      isplitl [HS]; · iexact HS
      isplitl [Hq4]; · iexact Hq4
      iexact Hq8
    isplitl [Hpend]; · iapply (slots_start m c) $$ Hpend
    isplitl [Htl0 Htl1]
    · iapply (Entails.of_eq htls.symm)
      isplitl [Htl0]; · iexact Htl0
      iexact Htl1
    isplitl [Hout]; · iexact Hout
    iexact Hmul
  iintro HI
  ihave HI := (show gemmInv m c 32 ⊢ iprop(sndJ m c 32 ∗ slots m c 32 ∅ ∗ tls m c 32 8 ∗ outs m c 32 ∗ mult m c) from Entails.of_eq rfl) $$ HI
  icases HI with ⟨HJ, Hslots, -, Hout, Hmul⟩
  iapply (pDrain_runs m K c _) $$ [HJ Hsent0 Hsent1]
  · isplitr; · iexact Hrec
    isplitr; · iexact Hl
    iapply (sndJ_end m c)
    isplitl [Hsent0]; · iexact Hsent0
    isplitl [Hsent1]; · iexact Hsent1
    iexact HJ
  iintro HD
  have e12 : left 12 = ∅ := by decide
  have eu : (Finset.univ : Finset (Fin 12)) \ ∅ = Finset.univ := by decide
  ihave HD := (show drained (F := F) c (left 12) ⊢ iprop(owesS c ∅ ∗ emp ∗ bigSep Finset.univ fun s => zero c (sendS s)) from
    Entails.of_eq (by unfold drained; rw [e12, eu, BI.bigSep_empty]; rfl)) $$ HD
  icases HD with ⟨HO, -, Hsz⟩
  iapply Hk
  unfold bodyOut
  isplitl [HO]; · iexact HO
  isplitl [Hbz]; · iexact Hbz
  isplitl [Hsz]; · iexact Hsz
  isplitl [Hslots]; · iapply (slots_end m c) $$ Hslots
  isplitl [Hsl]; · iexact Hsl
  isplitl [Hout]; · iexact Hout
  iexact Hmul

end Cert.GatherMatmul

end
-- ==== Proof.Split.lean ====
/-
# Cutting the buffers up and joining them

At the start a device's rows of `x`, its gathered copy, its columns of the result and its double buffers are cut into
the pieces the run moves about; at the end the pieces that are read or given back are joined.
-/
module

public import proofs.«01_k».proof.Proof.Body
public import Idealize.ShloMosaic.Lib.Ring

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Blocks of rows -/

/-- Blocks of rows that together hold every stretch of `u` rows hold every row. -/
theorem rows_cover {I : Type} (A B u k : ℕ) (a n : I → ℕ) (hA : A = u * k)
    (h : ∀ b : Fin k, ∃ i, a i ≤ u * b.val ∧ u * b.val + u ≤ a i + n i) (x : (⟨2, ![A, B]⟩ : Shape).Idx) : ∃ i, x ∈ rows A B (a i) (n i) := by
  have hx : (x 0).val < u * k := hA ▸ (x 0).isLt
  have hu : 0 < u := Nat.pos_of_ne_zero fun h0 => by rw [h0, Nat.zero_mul] at hx; exact Nat.not_lt_zero _ hx
  obtain ⟨i, h1, h2⟩ := h ⟨(x 0).val / u, Nat.div_lt_of_lt_mul hx⟩
  dsimp only at h1 h2
  have h3 := Nat.div_add_mod (x 0).val u
  have h4 := Nat.mod_lt (x 0).val hu
  exact ⟨i, mem_rows.mpr ⟨by omega, by omega⟩⟩

/-- A sum over `Fin n` is one over the numbers below `n`. -/
theorem sum_Ico (n : ℕ) (Ψ : ℕ → sProp 𝕄) : (bigSep Finset.univ fun t : Fin n => Ψ t.val) = bigSep (Finset.Ico 0 n) Ψ := by
  rw [← Finset.range_eq_Ico]
  exact Idealize.ShloMosaic.Ring.bigSep_fin_eq_range n (fun t : Fin n => Ψ t.val) Ψ fun _ _ => rfl

/-- A whole buffer is the blocks it is cut into. -/
theorem pts_blocks {I : Type} [Fintype I] (ℓ : Loc nD τ sig) (q : PosShare TreeShare) (f : Buf (Elt F) ℓ) (K : I → Finset (Idx ℓ))
    (hd : ∀ i j, i ≠ j → Disjoint (K i) (K j)) (hc : ∀ x, ∃ i, x ∈ K i) :
    (ℓ ↦{q} f : sProp 𝕄) = bigSep Finset.univ fun i => ℓ ↦[K i]{q} f := by
  classical
  have hu : Finset.univ.biUnion K = Finset.univ := by
    ext x
    obtain ⟨i, hi⟩ := hc x
    exact ⟨fun _ => Finset.mem_univ _, fun _ => Finset.mem_biUnion.mpr ⟨i, Finset.mem_univ _, hi⟩⟩
  refine Eq.trans ?_ (pointsTo_biUnion (ℓ := ℓ) (q := q) (f := f) Finset.univ K fun i _ j _ hij => hd i j hij)
  rw [hu]
/-- Blocks at contents of their own make the whole buffer at some contents. -/
theorem pts_join {I : Type} [Fintype I] (ℓ : Loc nD τ sig) (q : PosShare TreeShare) (fs : I → Buf (Elt F) ℓ) (f₀ : Buf (Elt F) ℓ) (K : I → Finset (Idx ℓ))
    (hd : ∀ i j, i ≠ j → Disjoint (K i) (K j)) (hc : ∀ x, ∃ i, x ∈ K i) :
    (bigSep Finset.univ fun i => ℓ ↦[K i]{q} fs i : sProp 𝕄) ⊢ iprop(∃ g : Buf (Elt F) ℓ, ℓ ↦{q} g) := by
  classical
  have hu : Finset.univ.biUnion K = Finset.univ := by
    ext x
    obtain ⟨i, hi⟩ := hc x
    exact ⟨fun _ => Finset.mem_univ _, fun _ => Finset.mem_biUnion.mpr ⟨i, Finset.mem_univ _, hi⟩⟩
  have h : (bigSep Finset.univ fun i => ℓ ↦[K i]{q} fs i : sProp 𝕄)
      ⊢ iprop(∃ g, ⌜∀ i ∈ Finset.univ, ∀ x ∈ K i, g x = fs i x⌝ ∗ ℓ ↦[Finset.univ.biUnion K]{q} g) :=
    pointsTo_biUnion_join (ℓ := ℓ) (q := q) Finset.univ K fs f₀ fun i _ j _ hij => hd i j hij
  rw [hu] at h
  iintro H
  ihave H := h $$ H
  icases H with ⟨%g, -, H⟩
  iexists g; iexact H

section Device
variable (m : (ℓ : Loc nD τ sig) → Buf (Elt F) ℓ) (c : Dev nD)

/-! ## The rows of `x` -/

/-- The sixteen tiles of 128 rows of `x`, by half. -/
def xStart : Fin 8 ⊕ Fin 8 → ℕ
  | .inl t => 128 * (0 + t.val)
  | .inr t => 128 * (8 + t.val)
theorem xStart_apart : ∀ i j : Fin 8 ⊕ Fin 8, i ≠ j → xStart i + 128 ≤ xStart j ∨ xStart j + 128 ≤ xStart i := by decide +kernel
theorem xStart_all : ∀ b : Fin 16, ∃ i, xStart i ≤ 128 * b.val ∧ 128 * b.val + 128 ≤ xStart i + 128 := by decide +kernel

/-- Half of the share of `x` stays whole; the other half is cut into tiles. -/
theorem x_split : (xLoc c ↦{fullShare} m (xLoc c) : sProp 𝕄)
    ⊢ iprop((xLoc c ↦{fullShare.left} m (xLoc c)) ∗ tilesX m c fullShare.right 0 0 ∗ tilesX m c fullShare.right 8 0) := by
  have e : (xLoc c ↦{fullShare.right} m (xLoc c) : sProp 𝕄)
      = iprop(tilesX m c fullShare.right 0 0 ∗ tilesX m c fullShare.right 8 0) := by
    unfold tilesX
    rw [← sum_Ico 8 (fun t => xPts m c (128 * (0 + t)) 128 fullShare.right), ← sum_Ico 8 (fun t => xPts m c (128 * (8 + t)) 128 fullShare.right)]
    refine Eq.trans ?_ (BI.bigSep_univ_sum (fun i : Fin 8 ⊕ Fin 8 => xPts m c (xStart i) 128 fullShare.right))
    exact pts_blocks (xLoc c) fullShare.right (m (xLoc c)) (fun i => rows 2048 8192 (xStart i) 128)
      (fun i j hij => rows_disjoint 2048 8192 (xStart_apart i j hij)) (rows_cover 2048 8192 128 16 xStart (fun _ => 128) rfl xStart_all)
  rw [← e]
  exact (pointsTo_share (PosShare.mem_left_op_right fullShare)).1

/-! ## The gathered copy -/

/-- The blocks of the gathered copy: the device's own sixteen tiles by half, and what each transfer brings. -/
abbrev GI : Type := Fin 8 ⊕ (Fin 8 ⊕ Fin 12)
def gStart (c : Dev nD) : GI → ℕ
  | .inl t => 2048 * c.val + 128 * (0 + t.val)
  | .inr (.inl t) => 2048 * c.val + 128 * (8 + t.val)
  | .inr (.inr s) => rRow s c
def gLen : GI → ℕ
  | .inl _ => 128
  | .inr (.inl _) => 128
  | .inr (.inr s) => len s
theorem gStart_apart : ∀ (c : Dev nD) (i j : GI), i ≠ j → gStart c i + gLen i ≤ gStart c j ∨ gStart c j + gLen j ≤ gStart c i := by decide +kernel
theorem gStart_all : ∀ (c : Dev nD) (b : Fin 64), ∃ i, gStart c i ≤ 128 * b.val ∧ 128 * b.val + 128 ≤ gStart c i + gLen i := by decide +kernel

/-- The gathered copy is the room for the device's own tiles and for the twelve transfers it receives. -/
theorem g_split (f : S8192x8192.Idx → Elt F .bf16) : (gLoc c ↦{fullShare} f : sProp 𝕄)
    ⊢ iprop(places (F := F) c 0 0 ∗ places (F := F) c 8 0 ∗ bigSep Finset.univ (freeAt (F := F) c)) := by
  have e : (gLoc c ↦{fullShare} f : sProp 𝕄) = bigSep Finset.univ fun i : GI => gPts c (gStart c i) (gLen i) fullShare f :=
    pts_blocks (gLoc c) fullShare f (fun i => rows 8192 8192 (gStart c i) (gLen i))
      (fun i j hij => rows_disjoint 8192 8192 (gStart_apart c i j hij)) (rows_cover 8192 8192 128 64 (gStart c) gLen rfl (gStart_all c))
  have e' : (bigSep Finset.univ fun i : GI => iprop(∃ f, gPts (F := F) c (gStart c i) (gLen i) fullShare f))
      = iprop(places (F := F) c 0 0 ∗ places (F := F) c 8 0 ∗ bigSep Finset.univ (freeAt (F := F) c)) := by
    unfold places
    rw [← sum_Ico 8 (fun t => gFree (F := F) c (2048 * c.val + 128 * (0 + t)) 128), ← sum_Ico 8 (fun t => gFree (F := F) c (2048 * c.val + 128 * (8 + t)) 128)]
    rw [BI.bigSep_univ_sum, BI.bigSep_univ_sum]; rfl
  rw [e, ← e']
  exact bigSep_mono fun i _ => show (gPts c (gStart c i) (gLen i) fullShare f : sProp 𝕄) ⊢ iprop(∃ f, gPts (F := F) c (gStart c i) (gLen i) fullShare f) from
    exists_intro (Φ := fun f => gPts (F := F) c (gStart c i) (gLen i) fullShare f) f

/-! ## The result -/

theorem tile_apart : ∀ (c : Dev nD) (i j : Fin 32), i ≠ j → 256 * tile c i.val + 256 ≤ 256 * tile c j.val ∨ 256 * tile c j.val + 256 ≤ 256 * tile c i.val := by
  decide +kernel
theorem tile_all : ∀ (c : Dev nD) (b : Fin 32), ∃ i : Fin 32, 256 * tile c i.val ≤ 256 * b.val ∧ 256 * b.val + 256 ≤ 256 * tile c i.val + 256 := by decide +kernel

/-- The result is its 32 tiles of 256 rows, in the order in which the device computes them. -/
theorem o_blocks (f : S8192x1024.Idx → Elt F .f32) :
    (oLoc c ↦{fullShare} f : sProp 𝕄) = bigSep (Finset.Ico 0 32) fun i => oPts c (tile c i) f := by
  rw [← sum_Ico 32 (fun i => oPts c (tile c i) f)]
  exact pts_blocks (oLoc c) fullShare f (fun i : Fin 32 => rows 8192 1024 (256 * tile c i.val) 256)
    (fun i j hij => rows_disjoint 8192 1024 (tile_apart c i j hij))
    (rows_cover 8192 1024 256 32 (fun i : Fin 32 => 256 * tile c i.val) (fun _ => 256) rfl (tile_all c))

theorem outs_start (f : S8192x1024.Idx → Elt F .f32) : (oLoc c ↦{fullShare} f : sProp 𝕄) ⊢ outs m c 0 := by
  rw [o_blocks]
  unfold outs
  rw [Finset.range_zero, BI.bigSep_empty]
  have h : (bigSep (Finset.Ico 0 32) fun i => oPts c (tile c i) f : sProp 𝕄) ⊢ bigSep (Finset.Ico 0 32) fun i => oFree (F := F) c (tile c i) :=
    bigSep_mono fun i _ => show (oPts c (tile c i) f : sProp 𝕄) ⊢ oFree (F := F) c (tile c i) from
      exists_intro (Φ := fun f => oPts (F := F) c (tile c i) f) f
  iintro H
  isplitr; · iempintro
  iapply h $$ H

theorem outs_end : (outs m c 32 : sProp 𝕄) ⊢ (oLoc c ↦{fullShare} result m c) := by
  rw [o_blocks]
  unfold outs
  rw [← Finset.range_eq_Ico]
  exact sep_elim_left

/-! ## The double buffers -/

theorem slab_apart (b b' : Fin 2) (h : b ≠ b') : Disjoint (slab b) (slab b') := by
  rw [Finset.disjoint_left]; intro i hi hj; rw [mem_slab] at hi hj; exact h (Fin.ext (hi.symm.trans hj))
theorem slab_all (x : S2x128x8192.Idx) : ∃ b, x ∈ slab b := ⟨x 0, mem_slab.mpr rfl⟩
theorem both (Φ : Fin 2 → sProp 𝕄) : bigSep Finset.univ Φ = iprop(Φ 0 ∗ Φ 1) := bigSep_univ_eq_bigSepL [0, 1] (by decide) (by decide) Φ

theorem a_split (f : S2x128x8192.Idx → Elt F .f32) : (aLoc c ↦{fullShare} f : sProp 𝕄) ⊢ iprop(aFree (F := F) c 0 ∗ aFree (F := F) c 1) := by
  have e : (aLoc c ↦{fullShare} f : sProp 𝕄) = bigSep Finset.univ fun b : Fin 2 => aPts c b f :=
    pts_blocks (aLoc c) fullShare f slab slab_apart slab_all
  rw [e, ← both]
  exact bigSep_mono fun b _ => show (aPts c b f : sProp 𝕄) ⊢ aFree (F := F) c b from exists_intro (Φ := fun f => aPts (F := F) c b f) f
theorem b_split (f : S2x128x8192.Idx → Elt F .bf16) : (bLoc c ↦{fullShare} f : sProp 𝕄) ⊢ iprop(bFree (F := F) c 0 ∗ bFree (F := F) c 1) := by
  have e : (bLoc c ↦{fullShare} f : sProp 𝕄) = bigSep Finset.univ fun b : Fin 2 => bPts c b f :=
    pts_blocks (bLoc c) fullShare f slab slab_apart slab_all
  rw [e, ← both]
  exact bigSep_mono fun b _ => show (bPts c b f : sProp 𝕄) ⊢ bFree (F := F) c b from exists_intro (Φ := fun f => bPts (F := F) c b f) f

theorem a_join : iprop(aFree (F := F) c 0 ∗ aFree (F := F) c 1) ⊢ iprop(∃ f : S2x128x8192.Idx → Elt F .f32, (aLoc c ↦{fullShare} f)) := by
  unfold aFree
  iintro ⟨⟨%f, H0⟩, %g, H1⟩
  iapply (pts_join (aLoc c) fullShare (![f, g] : Fin 2 → S2x128x8192.Idx → Elt F .f32) f slab slab_apart slab_all)
  iapply (Entails.of_eq (both fun b : Fin 2 => aPts c b ((![f, g] : Fin 2 → S2x128x8192.Idx → Elt F .f32) b)).symm)
  isplitl [H0]; · iexact H0
  iexact H1
theorem b_join : iprop(bFree (F := F) c 0 ∗ bFree (F := F) c 1) ⊢ iprop(∃ f : S2x128x8192.Idx → Elt F .bf16, (bLoc c ↦{fullShare} f)) := by
  unfold bFree
  iintro ⟨⟨%f, H0⟩, %g, H1⟩
  iapply (pts_join (bLoc c) fullShare (![f, g] : Fin 2 → S2x128x8192.Idx → Elt F .bf16) f slab slab_apart slab_all)
  iapply (Entails.of_eq (both fun b : Fin 2 => bPts c b ((![f, g] : Fin 2 → S2x128x8192.Idx → Elt F .bf16) b)).symm)
  isplitl [H0]; · iexact H0
  iexact H1

end Device

end Cert.GatherMatmul

end
-- ==== Proof.Fund.lean ====
/-
# What the launch deals out

The launch makes every handshake cell's state, position and duty tokens; the cells' invariants are allocated for all
devices at once, each duty's token goes to the device that pays it, and a device's launch credit is what the others owe
its barrier and its receive cells.
-/
module

public import proofs.«01_k».proof.Proof.Split

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Sums over the cells -/

/-- A sum over a device's cells: the barrier, the send cells, the receive cells. -/
theorem bigSep_Ck (Φ : Ck → sProp 𝕄) : bigSep Finset.univ Φ
    = iprop(Φ (.inl ()) ∗ (bigSep Finset.univ fun s => Φ (.inr (false, s))) ∗ bigSep Finset.univ fun s => Φ (.inr (true, s))) := by
  have h1 : (bigSep Finset.univ fun u : Unit => Φ (.inl u)) = Φ (.inl ()) := bigSep_univ_eq_bigSepL [()] (by decide) (by decide) _
  have h2 : (bigSep Finset.univ fun b : Bool => bigSep Finset.univ fun s : Fin 12 => Φ (.inr (b, s)))
      = iprop((bigSep Finset.univ fun s => Φ (.inr (false, s))) ∗ bigSep Finset.univ fun s => Φ (.inr (true, s))) :=
    bigSep_univ_eq_bigSepL [false, true] (by decide) (by decide) _
  rw [BI.bigSep_univ_sum, BI.bigSep_univ_prod, h1, h2]; rfl

/-! ## The semaphores -/

/-- The kernel's own semaphores: the transfers', and the six of the local copies. -/
abbrev OwnS : Type := (Bool × Fin 12) ⊕ Fin 6
def osem : OwnS → SemLoc sig
  | .inl p => csem (.inr p)
  | .inr i => .dma ⟨25 + i.val, Nat.lt_of_lt_of_le (Nat.add_lt_add_left i.isLt 25) (by decide)⟩
theorem ownSemFacts : Pipeline.OwnSemFacts cfg0.spec osem := by decide +kernel

section Sems
variable (c : Dev nD)

/-- The six semaphores of the local copies. -/
def locals0 : sProp 𝕄 := bigSep Finset.univ fun i : Fin 6 => semVal ((c : Thread nD τ), osem (.inr i)) 0
theorem locals0_eq : (locals0 (F := F) c)
    = iprop(zero c (castS 0) ∗ zero c (castS 1) ∗ zero c (stageS 0) ∗ zero c (stageS 1) ∗ zero c loadS ∗ zero c storeS) := by
  unfold locals0
  rw [bigSep_univ_eq_bigSepL [0, 1, 2, 3, 4, 5] (by decide) (by decide)]; rfl

theorem ownSems0_eq : (Pipeline.ownSems0 (Ix := Unit) (Name := ℕ) (U := UU) (Lvl := ℕ) (Val := Elt F) (τ := τ) osem c : sProp 𝕄)
    = iprop(((bigSep Finset.univ fun s => zero (F := F) c (sendS s)) ∗ (bigSep Finset.univ fun s => zero (F := F) c (recvS s))) ∗ locals0 c) := by
  have h2 : (bigSep Finset.univ fun b : Bool => bigSep Finset.univ fun s : Fin 12 => (semVal ((c : Thread nD τ), osem (.inl (b, s))) 0 : sProp 𝕄))
      = iprop((bigSep Finset.univ fun s => zero (F := F) c (sendS s)) ∗ bigSep Finset.univ fun s => zero (F := F) c (recvS s)) :=
    bigSep_univ_eq_bigSepL [false, true] (by decide) (by decide) _
  unfold Pipeline.ownSems0
  rw [BI.bigSep_univ_sum, BI.bigSep_univ_prod, h2]; rfl
/-- The barrier semaphore is the one that outlives the kernel. -/
theorem unscopedSems0_eq : (unscopedSems0 c : sProp 𝕄) = semVal (barCell c) 0 := by
  unfold unscopedSems0; rw [bigSep_eq_bigSepL_of_eq [SemLoc.reg barS] (by decide) (by decide)]; rfl

theorem cells0 : iprop(Pipeline.ownSems0 (Ix := Unit) (Name := ℕ) (U := UU) (Lvl := ℕ) (Val := Elt F) (τ := τ) osem c ∗ unscopedSems0 c)
    ⊢ iprop((bigSep Finset.univ fun k : Ck => semVal (kcell (c, k)) 0) ∗ locals0 (F := F) c) := by
  rw [ownSems0_eq, unscopedSems0_eq, bigSep_Ck]
  iintro ⟨⟨⟨HS, HV⟩, HL⟩, HB⟩
  isplitr [HL]
  · isplitl [HB]; · iexact HB
    isplitl [HS]; · iexact HS
    iexact HV
  iexact HL
end Sems

/-! ## What the launch element holds -/

/-- Every device's cells. -/
def ringCells : Finset (GSem nD τ sig) := Finset.univ.map ⟨kcell, kcell_injective⟩

/-- A device's own cells' duties: the barrier's two, and one of every send and receive cell. -/
abbrev Duty : Type := Bool ⊕ (Bool × Fin 12)
def dcell : Duty → Ck × Bool
  | .inl d => (.inl (), d)
  | .inr p => (.inr p, false)
theorem dcell_injective : Function.Injective dcell := by decide +kernel
def tokOf (cj : Dev nD × Duty) : GSem nD τ sig × ℕ × Bool := (kcell (cj.1, (dcell cj.2).1), 0, (dcell cj.2).2)
theorem tokOf_injective : Function.Injective tokOf := by
  rintro ⟨c, j⟩ ⟨c', j'⟩ h
  have h1 := kcell_injective (congrArg Prod.fst h)
  have h2 : (dcell j).2 = (dcell j').2 := congrArg (fun x : GSem nD τ sig × ℕ × Bool => x.2.2) h
  have h3 : c = c' := congrArg Prod.fst h1
  have h4 : (dcell j).1 = (dcell j').1 := congrArg Prod.snd h1
  rw [h3, dcell_injective (Prod.ext h4 h2)]
def ringToks : Finset (GSem nD τ sig × ℕ × Bool) := Finset.univ.map ⟨tokOf, tokOf_injective⟩

/-- The launch element: the pipeline's cells, the handshake cells, no counter yet. -/
def u₀ : UU := (initOf (Pipeline.cells cfgs cellOf_inj) (Pipeline.launchToks cfgs cellOf_inj), (initOf ringCells ringToks, 1))

/-- The duty tokens of device `c`'s own cells. -/
def toks (c : Dev nD) : sProp 𝕄 :=
  iprop((dutyTok ER (barCell c) 0 false ∗ dutyTok ER (barCell c) 0 true)
    ∗ (bigSep Finset.univ fun s => dutyTok ER (sendCell s c) 0 false) ∗ bigSep Finset.univ fun s => dutyTok ER (recvCell s c) 0 false)
/-- Those of the duties it pays. -/
def payToks (c : Dev nD) : sProp 𝕄 :=
  iprop((dutyTok ER (barCell (nxt c)) 0 false ∗ dutyTok ER (barCell (prv c)) 0 true)
    ∗ (bigSep Finset.univ fun s => dutyTok ER (sendCell s c) 0 false) ∗ bigSep Finset.univ fun s => dutyTok ER (recvCell s (dst s c)) 0 false)

theorem toks_eq (c : Dev nD) : (bigSep Finset.univ fun j : Duty => dutyTok ER (tokOf (c, j)).1 (tokOf (c, j)).2.1 (tokOf (c, j)).2.2) = toks (F := F) c := by
  have h1 : (bigSep Finset.univ fun d : Bool => (dutyTok ER (barCell c) 0 d : sProp 𝕄)) = iprop(dutyTok ER (barCell c) 0 false ∗ dutyTok ER (barCell c) 0 true) :=
    bigSep_univ_eq_bigSepL [false, true] (by decide) (by decide) _
  have h2 : (bigSep Finset.univ fun b : Bool => bigSep Finset.univ fun s : Fin 12 => (dutyTok ER (kcell (c, .inr (b, s))) 0 false : sProp 𝕄))
      = iprop((bigSep Finset.univ fun s => dutyTok ER (sendCell s c) 0 false) ∗ bigSep Finset.univ fun s => dutyTok ER (recvCell s c) 0 false) :=
    bigSep_univ_eq_bigSepL [false, true] (by decide) (by decide) _
  unfold toks
  rw [← h1, ← h2, BI.bigSep_univ_sum, BI.bigSep_univ_prod]; rfl

variable (m : (ℓ : Loc nD τ sig) → Buf (Elt F) ℓ)

/-- A device's positions at its cells. -/
def ats (c : Dev nD) : sProp 𝕄 := bigSep Finset.univ fun k : Ck => atPos ER (kcell (c, k)) 0 ∅ 0
/-- What the launch element deals device `c`. -/
def G (c : Dev nD) : sProp 𝕄 :=
  iprop((bigSep Finset.univ fun k : Ck => roundState ER (Rd m) (kcell (c, k)) 0)
    ∗ (ats c ∗ bigSep Finset.univ fun k : Ck => reached ER (kcell (c, k)) 0) ∗ toks c)
/-- What device `c` holds once the cells' invariants are there. -/
def G' (c : Dev nD) : sProp 𝕄 := iprop(∃ K, recs m K ∗ (ats c ∗ payToks c) ∗ locals0 c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, BI.bigSep_univ_prod]; rfl
  have hT : bigSep ringToks (fun x => (dutyTok ER x.1 x.2.1 x.2.2 : sProp 𝕄)) = bigSep Finset.univ fun c : Dev nD => toks c := by
    unfold ringToks; rw [bigSep_map, BI.bigSep_univ_prod]
    exact bigSep_congr fun c _ => toks_eq c
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G ats; simp only [bigSep_sep']
  isplitl [Hst]; · iexact Hst
  isplitl [Hat Hr]
  · isplitl [Hat] <;> iassumption
  iexact Htok

/-! ## The cells' invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop((∃ κ : ℕ, cellInv ER (Rd m) κ (kcell (c, k))) ∗ reached ER (kcell (c, k)) 0))
          ∗ (ats c ∗ toks c) ∗ locals0 c) := by
  have hinv : iprop((bigSep Finset.univ fun k : Ck => semVal (kcell (c, k)) 0) ∗ bigSep Finset.univ fun k : Ck => roundState ER (Rd m) (kcell (c, k)) 0)
      ⊢ (|={Set.univ}=> bigSep Finset.univ fun k : Ck => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, ⟨Hat, Hr⟩, Htok⟩
  ihave H := (cells0 (F := F) c) $$ [Hos Hus]
  · isplitl [Hos] <;> iassumption
  icases H with ⟨Hv, Hl⟩
  imod hinv $$ [Hv Hst] with Hinv
  · isplitl [Hv] <;> iassumption
  imodintro
  isplitl [Hinv Hr]
  · rw [bigSep_sep']
    isplitl [Hinv] <;> iassumption
  isplitl [Hat Htok]
  · isplitl [Hat] <;> iassumption
  iexact Hl

/-- Every duty's token goes to the device that pays it. -/
theorem toks_around : (bigSep Finset.univ fun c : Dev nD => (toks c : sProp 𝕄)) = bigSep Finset.univ fun c : Dev nD => payToks c := by
  have hr : (bigSep Finset.univ fun c : Dev nD => bigSep Finset.univ fun s : Fin 12 => (dutyTok ER (recvCell s c) 0 false : sProp 𝕄))
      = bigSep Finset.univ fun c : Dev nD => bigSep Finset.univ fun s : Fin 12 => dutyTok ER (recvCell s (dst s c)) 0 false := by
    let e : Dev nD × Fin 12 ≃ Dev nD × Fin 12 :=
      ⟨fun p => (dst p.2 p.1, p.2), fun p => (orig p.2 p.1, p.2), fun p => Prod.ext (orig_dst p.2 p.1) rfl, fun p => Prod.ext (dst_orig p.2 p.1) rfl⟩
    rw [← BI.bigSep_univ_prod fun p : Dev nD × Fin 12 => (dutyTok ER (recvCell p.2 p.1) 0 false : sProp 𝕄),
      BI.bigSep_univ_equiv e fun p : Dev nD × Fin 12 => (dutyTok ER (recvCell p.2 p.1) 0 false : sProp 𝕄), BI.bigSep_univ_prod]; rfl
  have h1 := BI.bigSep_univ_equiv ring fun c : Dev nD => (dutyTok ER (barCell c) 0 false : sProp 𝕄)
  have h2 := BI.bigSep_univ_equiv ring.symm fun c : Dev nD => (dutyTok ER (barCell c) 0 true : sProp 𝕄)
  unfold toks payToks
  rw [bigSep_sep', bigSep_sep', bigSep_sep', bigSep_sep', bigSep_sep', bigSep_sep', hr, h1, h2]; rfl

/-- What is the same for every device can be given to each. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Ck => iprop((∃ κ : ℕ, cellInv ER (Rd m) κ (kcell (c, k))) ∗ reached ER (kcell (c, k)) 0))
          ∗ (ats c ∗ toks c) ∗ locals0 c) : sProp 𝕄)
      ⊢ bigSep Finset.univ (G' m) := by
  have hK : (bigSep Finset.univ fun c : Dev nD => bigSep Finset.univ fun k : Ck => iprop((∃ κ : ℕ, cellInv ER (Rd m) κ (kcell (c, k))) ∗ reached ER (kcell (c, k)) 0) : sProp 𝕄)
      ⊢ iprop(∃ K, recs m K) := by
    rw [← BI.bigSep_univ_prod (fun ck : Dev nD × Ck => iprop((∃ κ : ℕ, cellInv ER (Rd m) κ (kcell ck)) ∗ reached ER (kcell ck) 0)), bigSep_sep']
    iintro ⟨HI, HR⟩
    ihave HK := (BI.bigSep_exists_pi Finset.univ (fun (ck : Dev nD × Ck) (κ : ℕ) => (cellInv ER (Rd m) κ (kcell ck) : sProp 𝕄))) $$ HI
    icases HK with ⟨%K, HI⟩
    iexists K
    unfold recs; rw [bigSep_sep']
    isplitl [HI] <;> iassumption
  have hL : (bigSep Finset.univ fun c : Dev nD => iprop((ats c ∗ toks c) ∗ locals0 c) : sProp 𝕄)
      = bigSep Finset.univ fun c : Dev nD => iprop((ats c ∗ payToks c) ∗ locals0 c) := by
    rw [bigSep_sep', bigSep_sep', toks_around, ← bigSep_sep', ← bigSep_sep']
  rw [bigSep_sep', hL]
  iintro ⟨HI, HL⟩
  ihave HI := hK $$ HI
  icases HI with ⟨%K, #HI⟩
  iapply (bigSep_share (R := recs m K) (Φ := fun c : Dev nD => iprop((ats c ∗ payToks c) ∗ locals0 (F := F) c)) fun c _ =>
    show iprop(recs m K ∗ (ats c ∗ payToks c) ∗ locals0 c) ⊢ G' m c from
      exists_intro (Φ := fun K => iprop(recs m K ∗ (ats c ∗ payToks c) ∗ locals0 c)) K)
  isplitr; · iexact HI
  iexact HL

/-- The cells' invariants are made for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_iff {a b : Dev nD × Ck} : kcell a = kcell b ↔ a = b := ⟨fun h => kcell_injective h, fun h => h ▸ rfl⟩

/-- What device `d` owes receive cell `s` of device `c`. -/
theorem owed_recv (d c : Dev nD) (s : Fin 12) : O₀ d (recvCell s c) () = if d = orig s c then amt s else 0 := by
  have hb (a : Dev nD) : tallyAt (barCell a) () 1 (recvCell s c) () = 0 := by
    rw [tallyAt_apply, if_neg fun h => by cases congrArg Prod.snd (kcell_iff.mp h.1)]
  unfold O₀ O₁ owed
  rw [Pi.add_apply, Finsupp.add_apply, Pi.add_apply, Finsupp.add_apply, hb, hb, Nat.add_zero,
    Finset.sum_apply, Finsupp.finset_sum_apply]
  rw [Finset.sum_eq_single s]
  · rw [tallyAt_apply]
    refine if_congr ⟨fun h => ?_, fun h => ?_⟩ rfl rfl
    · have := congrArg Prod.fst (kcell_iff.mp h.1)
      rw [show c = dst s d from this, orig_dst]
    · rw [h, dst_orig]; exact ⟨rfl, rfl⟩
  · intro s' _ hs
    rw [tallyAt_apply, if_neg fun h => hs ?_]
    have := congrArg Prod.snd (kcell_iff.mp h.1)
    injection this with h1; injection h1 with h2 h3; exact h3.symm
  · intro h; exact absurd (Finset.mem_univ _) h
/-- What device `d` owes the barrier of device `c`. -/
theorem owed_bar (d c : Dev nD) : O₀ d (barCell c) () = (if d = prv c then 1 else 0) + (if d = nxt c then 1 else 0) := by
  have hb (a : Dev nD) : tallyAt (barCell a) () 1 (barCell c) () = if c = a then 1 else 0 := by
    rw [tallyAt_apply]
    exact if_congr ⟨fun h => congrArg Prod.fst (kcell_iff.mp h.1), fun h => ⟨by rw [h], rfl⟩⟩ rfl rfl
  have h0 : owed d Finset.univ (barCell c) () = 0 := by
    unfold owed
    rw [Finset.sum_apply, Finsupp.finset_sum_apply]
    exact Finset.sum_eq_zero fun s _ => by rw [tallyAt_apply, if_neg fun h => by cases congrArg Prod.snd (kcell_iff.mp h.1)]
  unfold O₀ O₁
  rw [Pi.add_apply, Finsupp.add_apply, Pi.add_apply, Finsupp.add_apply, h0, hb, hb, Nat.zero_add]
  congr 1
  · exact if_congr ⟨fun h => by rw [h, prv_nxt], fun h => by rw [h, nxt_prv]⟩ rfl rfl
  · exact if_congr ⟨fun h => by rw [h, nxt_prv], fun h => by rw [h, prv_nxt]⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]
theorem launch_recv (c : Dev nD) (s : Fin 12) :
    tallyOn (recvCell s c) (launchCredit (Pipeline.owing O₀) 0 (recvCell s c)) = (tallyAt (recvCell s c) () (amt s) : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (orig s c) fun _ => amt s,
    if_pos (Finset.mem_univ _)]

/-- A device starts with the credit of its barrier and of its twelve receive cells. -/
theorem creds (c : Dev nD) : (Pipeline.launchCred O₀ c : sProp 𝕄)
    ⊢ iprop(cred (tallyAt (barCell c) () 2) ∗ bigSep Finset.univ fun s => cred (tallyAt (recvCell s c) () (amt s))) := by
  unfold Pipeline.launchCred
  rw [BI.bigSep_sdiff_split (Finset.subset_univ (Finset.univ.map ⟨csem, csem_injective⟩)), bigSep_map, bigSep_Ck]
  refine sep_elim_left.trans ?_
  have h : (bigSep Finset.univ fun s : Fin 12 => (cred (tallyAt (recvCell s c) () (amt s)) : sProp 𝕄))
      = bigSep Finset.univ fun s : Fin 12 => cred (tallyOn (recvCell s c) (launchCredit (Pipeline.owing O₀) 0 (recvCell s c))) :=
    bigSep_congr fun s _ => by rw [launch_recv]
  rw [h, ← launch_bar]
  show iprop(_ ∗ _ ∗ _) ⊢ _
  iintro ⟨H1, -, H2⟩
  isplitl [H1]; · iexact H1
  iexact H2

end Cert.GatherMatmul

end
-- ==== Proof.Launch.lean ====
/-
# The kernel's run on the mesh

The body, started on every device from what the launch deals out, ends with every semaphore at zero, the device's rows of
`x` and columns of `w` as they were, and its columns of the result computed.
-/
module

public import proofs.«01_k».proof.Proof.Fund
public import Idealize.ShloMosaic.Lib.Pipeline.CollectiveSegs
public import Idealize.ShloMosaic.Lib.Quiescent

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

open Idealize.ShloMosaic.Pipeline

variable (m : (ℓ : Loc nD τ sig) → Buf (Elt F) ℓ) (ρ : Dev nD → PrngReg)

/-- The memory the run starts from. -/
abbrev s₀ : MemSt nD τ sig (Elt F) := ⟨m, fun _ => 0, ρ⟩

/-! ## Before and after the body -/

/-- What device `c` starts from, beside its scratch buffers. -/
def start (c : Dev nD) : sProp 𝕄 :=
  iprop(G' m c ∗ (cred (tallyAt (barCell c) () 2) ∗ bigSep Finset.univ fun s => cred (tallyAt (recvCell s c) () (amt s))) ∗ levAts L lv
    ∗ (xLoc c ↦{fullShare} m (xLoc c)) ∗ (oLoc c ↦{fullShare} m (oLoc c)) ∗ (gLoc c ↦{fullShare} m (gLoc c)))
/-- What it keeps past the kernel: the barrier at zero, its rows of `x`, its columns of the result. -/
def finish (c : Dev nD) : sProp 𝕄 :=
  iprop(unscopedSems0 c ∗ (xLoc c ↦{fullShare.left} m (xLoc c)) ∗ (oLoc c ↦{fullShare} result m c))

def Φ₀ (c : Dev nD) : sProp 𝕄 := iprop(start m c ∗ Pipeline.scopedRest cfg0.spec c)
def Φ₁ (c : Dev nD) : sProp 𝕄 := iprop(finish m c ∗ Pipeline.ownSems0 osem c ∗ Pipeline.scopedRest cfg0.spec c)

/-- The pipeline's data: the staged columns of `w` are left as they are. -/
def dats (_ : Fin 1) (c : Dev nD) : Dat τ (Elt F) Unit ℕ UU ℕ cfg0 c where
  A w := m ((cfg0.win w).arr.view.loc (c : Thread nD τ))
  after w _ := match w with
    | ⟨0, _⟩ => wBlock m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The window's buffer holds the device's columns of `w` when the body starts. -/
theorem before_w (c : Dev nD) (d : (cfg0.win 0).block.Idx → Elt F (cfg0.win 0).elt) : (dats m 0 c).before 0 t0_0 d = wBlock m c := by
  unfold Dat.before
  rw [if_pos (by rfl)]
  show (win0_0.blk t0_0).view.read (Elt F) (m ((c : Thread nD τ).loc main_arg1)) = _
  exact Memref.read_access_unit_zero (Elt F) main_arg1
    (show (fun a => (win0_0.index t0_0) a * main_arg1.ty.shape.size a) = fun _ => 0 from funext fun a => Nat.zero_mul _)
    (fun a => by fin_cases a <;> decide) _

/-! ## The body's obligation -/

/-- What the launch dealt, taken apart into what the body starts from. -/
theorem body_start (c : Dev nD) (W : Waits sig Unit) :
    iprop(Φ₀ m c ∗ owes (c : Thread nD τ) (O₀ c) W ∗ (wLoc c ↦{fullShare} wBlock m c))
      ⊢ iprop((∃ K, recs m K) ∗ levAts L lv ∗ bodyIn m c fullShare.right ∗ (xLoc c ↦{fullShare.left} m (xLoc c))) := by
  unfold Φ₀ start G'
  rw [locals0_eq, scopedRest0_eq]
  iintro ⟨⟨⟨⟨%K, HK, ⟨Hat, Htok⟩, Hc0, Hc1, Hs0, Hs1, Hl, Hst⟩, ⟨HcB, HcR⟩, Hlev, Hx, Ho, Hg⟩, ⟨%fa, Ha⟩, ⟨%fb, Hb⟩, Ht, Hy⟩, HO, Hw⟩
  ihave Hx := (x_split m c) $$ Hx
  icases Hx with ⟨HxL, Hx0, Hx8⟩
  ihave Hg := (g_split c (m (gLoc c))) $$ Hg
  icases Hg with ⟨Hg0, Hg8, Hfree⟩
  ihave Ho := (outs_start m c (m (oLoc c))) $$ Ho
  ihave Ha := (a_split c fa) $$ Ha
  icases Ha with ⟨Ha0, Ha1⟩
  ihave Hb := (b_split c fb) $$ Hb
  icases Hb with ⟨Hb0, Hb1⟩
  unfold ats payToks
  ihave Hat := (Entails.of_eq (bigSep_Ck fun k => (atPos ER (kcell (c, k)) 0 ∅ 0 : sProp 𝕄))) $$ Hat
  icases Hat with ⟨HatB, HatS, HatR⟩
  icases Htok with ⟨⟨HtN, HtP⟩, HtS, HtR⟩
  isplitl [HK]; · iexists K; iexact HK
  isplitl [Hlev]; · iexact Hlev
  isplitr [HxL]
  · unfold bodyIn startAt pend slotsFree mult tFree yFree
    simp only [bigSep_sep']
    isplitl [HO]; · iexists W; iexact HO
    isplitl [HtN HtP]
    · isplitl [HtP] <;> iassumption
    isplitl [Hfree]; · iexact Hfree
    isplitl [HatB HcB]
    · isplitl [HatB] <;> iassumption
    isplitl [HtS HtR HatS]
    · isplitl [HtS]; · iexact HtS
      isplitl [HtR] <;> iassumption
    isplitl [HcR HatR]
    · isplitl [HcR] <;> iassumption
    isplitl [Ha0 Ha1 Hc0 Hc1 Hb0 Hb1 Hs0 Hs1]
    · isplitl [Ha0 Hc0]
      · isplitl [Ha0] <;> iassumption
      isplitl [Ha1 Hc1]
      · isplitl [Ha1] <;> iassumption
      isplitl [Hs0 Hb0]
      · isplitl [Hs0] <;> iassumption
      isplitl [Hs1] <;> iassumption
    isplitl [Hx0 Hg0]
    · isplitl [Hx0] <;> iassumption
    isplitl [Hx8 Hg8]
    · isplitl [Hx8] <;> iassumption
    isplitl [Ho]; · iexact Ho
    isplitl [Ht]; · iexact Ht
    isplitl [Hl]; · iexact Hl
    isplitl [Hy]; · iexact Hy
    isplitl [Hst] <;> iassumption
  iexact HxL

/-- What the body leaves, put together. -/
theorem body_end (c : Dev nD) :
    iprop(bodyOut m c ∗ (xLoc c ↦{fullShare.left} m (xLoc c)))
      ⊢ iprop(Φ₁ m c ∗ (∃ W, owes (c : Thread nD τ) (0 : CellTallies nD τ sig Unit) W) ∗ (wLoc c ↦{fullShare} wBlock m c)) := by
  unfold Φ₁ finish bodyOut slotsFree mult owesS
  rw [owed_empty, ownSems0_eq, locals0_eq, scopedRest0_eq, unscopedSems0_eq]
  iintro ⟨⟨HO, HzB, HzS, HzR, ⟨⟨Ha0, Hc0⟩, ⟨Ha1, Hc1⟩, ⟨Hs0, Hb0⟩, Hs1, Hb1⟩, Ho, Ht, Hl, Hy, Hst, Hw⟩, HxL⟩
  ihave Ho := (outs_end m c) $$ Ho
  ihave Ha := (a_join (F := F) c) $$ [Ha0 Ha1]
  · isplitl [Ha0] <;> iassumption
  ihave Hb := (b_join (F := F) c) $$ [Hb0 Hb1]
  · isplitl [Hb0] <;> iassumption
  unfold tFree yFree
  isplitr [HO Hw]
  · isplitl [HzB HxL Ho]
    · isplitl [HzB]; · iexact HzB
      isplitl [HxL] <;> iassumption
    isplitl [HzS HzR Hc0 Hc1 Hs0 Hs1 Hl Hst]
    · isplitl [HzS HzR]
      · isplitl [HzS] <;> iassumption
      isplitl [Hc0]; · iexact Hc0
      isplitl [Hc1]; · iexact Hc1
      isplitl [Hs0]; · iexact Hs0
      isplitl [Hs1]; · iexact Hs1
      isplitl [Hl] <;> iassumption
    isplitl [Ha]; · iexact Ha
    isplitl [Hb]; · iexact Hb
    isplitl [Ht]; · iexact Ht
    iexact Hy
  isplitl [HO]; · iexact HO
  iexact Hw

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (wBlock m c))

theorem body_sound (c : Dev nD) : bodyPre m c ⊢ wp frame (wpE (defs₀ (F := F)) 𝒱₀ (c : Thread nD τ) none) Set.univ
    (cc0_body (Memref.whole main_arg0) (Memref.isWhole_whole _) (Memref.whole cc0_stg0_0) (Memref.isWhole_whole _) (Memref.whole main_v1_0) (Memref.isWhole_whole _)
      (Memref.whole main_v1_1) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9) (fun _ => bodyPost m c) := by
  obtain ⟨f5, f7, f10, f11, f12, f13, f53, hb⟩ := body_eq (F := F) (Memref.isWhole_whole _) (Memref.isWhole_whole _) (Memref.isWhole_whole _)
    (Memref.isWhole_whole _) (Memref.isWhole_whole _) (Memref.isWhole_whole _) (Memref.isWhole_whole _) (Memref.isWhole_whole _)
  rw [hb]
  simp only [wp_deviceId]
  unfold bodyPre Dat.owesAt Pipeline.owesWithin
  rw [show (dats m 0 c).owed t0_0.castSucc = O₀ c from rfl]
  iintro ⟨HΦ, ⟨%W, %hW, HO⟩, %d, %f, %hf, Hw⟩
  rw [before_w] at hf
  subst hf
  ihave H := (body_start m c W) $$ [HΦ HO Hw]
  · isplitl [HΦ]; · iexact HΦ
    isplitl [HO] <;> iassumption
  icases H with ⟨⟨%K, #HK⟩, #Hlev, Hin, Hx⟩
  iapply (pBody_runs m K c _ _ _ _ _ _ _ _ _ _ _ _ _ _ _ fullShare.right _) $$ [Hin]
  · isplitr; · iexact HK
    isplitr; · iexact Hlev
    iexact Hin
  iintro Hout
  ihave H := (body_end m c) $$ [Hout Hx]
  · isplitl [Hout] <;> iassumption
  icases H with ⟨HΦ, ⟨%W', HO⟩, Hw⟩
  unfold bodyPost Dat.owesAt Pipeline.owesWithin
  rw [show (dats m 0 c).owed t0_0.succ = 0 from rfl]
  isplitl [HΦ]; · iexact HΦ
  isplitl [HO]
  · iexists W'
    isplitr; · ipureintro; exact fun _ _ => Or.inl trivial
    iexact HO
  iexists (wBlock m c)
  isplitr; · ipureintro; rfl
  iexact Hw

end Cert.GatherMatmul

end
-- ==== Proof.Run.lean ====
/-
# The run of the whole program

The pipeline launches the body on the four devices; every fair run ends with every semaphore at zero, `x` and `w` as they
were, and the result computed.
-/
module

public import proofs.«01_k».proof.Proof.Launch

@[expose] public section

noncomputable section

namespace Cert.GatherMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

open Idealize.ShloMosaic.Pipeline

variable (m : (ℓ : Loc nD τ sig) → Buf (Elt F) ℓ) (ρ : Dev nD → PrngReg)

set_option maxRecDepth 4000 in
/-- The body meets the pipeline's obligation. -/
theorem body_obligation (c : Dev nD) : BodyObligation (dats (F := F) m 0 c) (defs₀ (F := F)) 𝒱₀ () Set.univ := fun t => by
  rw [fin_N0 t, bigSep_W0, bigSep_W0]
  simp only [owns_whole_eq]
  exact body_sound m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho, Hg⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]; · iexact Hx
    isplitl [Ho] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl]
  exact Entails.of_eq rfl

/-- The staging semaphore is no handshake cell's. -/
theorem stage_level (c : Dev nD) (w : Fin cfg0.W) (s : Fin (cfg0.win w).nbuf) : lv ((c : Thread nD τ), .dma ((cfg0.win w).sem s)) () ≤ 0 := by
  fin_cases w <;> fin_cases s <;> revert c <;> decide
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · show (levAts L lv : sProp 𝕄) ⊢ MayWait (c : Thread nD τ) (.dma ((cfg0.win w).sem s)) () (O₀ c)
      exact mayWait_launch c _ (stage_level c w s)
    · show (levAts L lv : sProp 𝕄) ⊢ MayWait (c : Thread nD τ) (.dma ((cfg0.win w).sem s)) () 0
      exact mayWait_of c _ _ le_rfl 0 fun g u hg => absurd hg (Nat.lt_irrefl 0)

/-! ## The run -/

/-- What the run leaves device `c` beside the windows' arrays: its unscoped semaphores at zero, its rows of `x`, its
    columns of the result. -/
def Left (c : Dev nD) (s : MemSt nD τ sig (Elt F)) : Prop :=
  (∀ sm : SemLoc sig, sm.isScoped .tc = false → s.sem ((c.tc : Thread nD τ), sm) = 0)
    ∧ s.mem (xLoc c) = m (xLoc c) ∧ s.mem (oLoc c) = result m c

theorem finish_read (c : Dev nD) (s' : Phys nD τ sig (Elt F)) :
    iprop(finish m c ∗ emp ∗ SI s') ⊢ |={Set.univ}=> iprop(⌜Left m c s'.mem⌝ ∗ SI s' : sProp 𝕄) := by
  unfold finish
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hx i (Finset.mem_univ _), funext fun i => ho i (Finset.mem_univ _)⟩
  iexact HSI

/-- What the run leaves: on every device `x` and `w` as they were and the result computed, and every semaphore at zero. -/
def Done (s : MemSt nD τ sig (Elt F)) : Prop :=
  (∀ c : Dev nD, s.mem (xLoc c) = m (xLoc c) ∧ s.mem ((c : Thread nD τ).loc main_arg1) = m ((c : Thread nD τ).loc main_arg1) ∧ s.mem (oLoc c) = result m c)
    ∧ s.sem = fun _ => 0

/-- The columns of `w` are as they were. -/
theorem arr_w (c : Dev nD) : (dats m 0 c).arrAt (0 : Fin 1) cfg0.N = m ((c : Thread nD τ).loc main_arg1) :=
  (dats (F := F) m 0 c).arrAt_in (0 : Fin 1) rfl _

set_option maxRecDepth 8000 in
/-- On the four devices, from any memory with every semaphore at zero and for any floats: every fair run of the kernel
    ends, and ends as `Done` says. -/
theorem run_main : θ_run defs (onTc (τ := τ) (main (F := F))) (s₀ m ρ) (fun r => Done m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_split (F := F) _) $$ HX
      imod (fund_ring m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := phi0_intro m) (hout := phi1_exit m)
    (QY := Left m) (hY := finish_read m)
    (hQ := fun _ h hs => ⟨fun c => ⟨(h c).2.2.2.1, ((h c).1 (0 : Fin 1)).trans (arr_w m c), (h c).2.2.2.2⟩, sem_eq_zero hs fun c => (h c).2.2.1⟩)

end Cert.GatherMatmul

end
-- ==== Proof.Value.lean ====
/-
# The computed result is the reference's

At the ideal values a change of float format keeps the value and a tile product is the plain sum of products. So the
result the run ends with, read at an index, is `max (∑ₖ x[row, k] · w[k, col]) 0` of the whole arrays the devices hold
blocks of, which is what the reference computes.
-/
module

public import proofs.«01_k».proof.Proof.Common
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout

@[expose] public section

noncomputable section

namespace Cert.GatherMatmul

open Cert.KernelIdeal Cert.KernelIdeal.Gen
open Idealize.ShloMosaic Idealize.ShloMosaic.TcCoe Idealize.ShloMosaic.ValueIdx Idealize.ShloMosaic.StackMember
open scoped BigOperators

/-- The tile product with its rectifier, read at an index: the sum of the products of the row and the column, or the
    zero word's value where that is larger. -/
theorem tile_product_apply (g : S256x8192.Idx → Elt Ideal .bf16) (w : S8192x1024.Idx → Elt Ideal .bf16) (r : Fin 256) (l : Fin 1024) :
    k0_pay5 (F := Ideal) g w (ix2 r l) = max (∑ k : Fin 8192, g (ix2 r k) * w (ix2 k l)) (Ideal.ofBits .f32 0x00000000#32) := by
  unfold k0_pay5
  rw [shapeCast_self, shapeCast_self, maximumf_apply]
  refine congrArg₂ max ?_ rfl
  refine (Ideal.matmul_plain_apply (M := 256) (K := 8192) (N := 1024) none g w _ r l).trans ?_
  rw [constant_apply, Ideal.ofBits_zero_f32, zero_add]

/-- The index of a pair of coordinates by remainders is the pair itself. -/
theorem ix_eq_ix2 (A B : ℕ) [NeZero A] [NeZero B] (r k : ℕ) (a : Fin A) (b : Fin B) (ha : r % A = a.val) (hb : k % B = b.val) :
    ix A B r k = ix2 a b := by
  funext d; apply Fin.ext
  match d with
  | ⟨0, _⟩ => exact ha
  | ⟨1, _⟩ => exact hb

variable (m : (ℓ : Loc nD τ sig) → Buf (Elt Ideal) ℓ)

/-- A row of the gathered copy is that row of the whole `x` of which the devices hold blocks of rows. -/
theorem gathered_whole (X : (⟨2, ![8192, 8192]⟩ : Shape).Idx → Elt Ideal .f32)
    (hX : ∀ c : Dev nD, m (xLoc c) = Layout.block ⟨2, ![2048, 8192]⟩ ⟨2, ![8192, 8192]⟩ 0 4 c X)
    (r k : Fin 8192) : gathered m (ix2 r k) = X (ix2 r k) := by
  show m (xLoc (holder r.val)) (ix 2048 8192 r.val k.val) = _
  rw [hX, Layout.block_apply]
  refine congrArg X ?_
  funext d; apply Fin.ext
  match d with
  | ⟨0, _⟩ =>
    show (r.val / 2048) % 4 * 2048 + r.val % 2048 = r.val
    omega
  | ⟨1, _⟩ => exact Nat.mod_eq_of_lt k.isLt

/-- The result a device ends with, read at an index. -/
theorem result_apply (c : Dev nD) (r : Fin 8192) (l : Fin 1024) :
    result m c (ix2 r l) = max (∑ k : Fin 8192, gathered m (ix2 r k) * wBlock m c (ix2 k l)) (Ideal.ofBits .f32 0x00000000#32) := by
  have hr : (ix 256 1024 r.val l.val : S256x1024.Idx) = ix2 ⟨r.val % 256, Nat.mod_lt _ (by decide)⟩ l :=
    ix_eq_ix2 256 1024 _ _ _ _ rfl (Nat.mod_eq_of_lt l.isLt)
  show k0_pay5 (gtile m (r.val / 256)) (wBlock m c) (ix 256 1024 r.val l.val) = _
  have hg : ∀ k : Fin 8192, gtile m (r.val / 256) (ix2 ⟨r.val % 256, Nat.mod_lt _ (by decide)⟩ k) = gathered m (ix2 r k) := by
    intro k
    show gathered m (ix 8192 8192 (256 * (r.val / 256) + r.val % 256) k.val) = _
    rw [Nat.div_add_mod]
    exact congrArg (gathered m) (ix_eq_ix2 8192 8192 _ _ _ _ (Nat.mod_eq_of_lt r.isLt) (Nat.mod_eq_of_lt k.isLt))
  rw [hr, tile_product_apply]
  simp only [hg]

/-- The reference's result on the whole arrays. -/
def whole (X : (⟨2, ![8192, 8192]⟩ : Shape).Idx → Elt Ideal .f32) (W : (⟨2, ![8192, 4096]⟩ : Shape).Idx → Elt Ideal .bf16) :
    (⟨2, ![8192, 4096]⟩ : Shape).Idx → Elt Ideal .f32 :=
  maximumf (F := Ideal) (Host.dotGeneral (φ₁ := .f32) (φ₂ := .f32) Cert.ReferenceIdeal.dot_S8192x8192_S8192x4096_S8192x4096_1_0_0_1_n_n none X
      (extf .f32 W Cert.ReferenceIdeal.Gen.bitsLt_bf16_f32))
    (broadcastInDim Cert.ReferenceIdeal.S8192x4096 ![] Cert.ReferenceIdeal.Gen.bcast_S_S8192x4096
      (constant Cert.ReferenceIdeal.S_ .f32 0x00000000#32))

/-- The reference's result, read at an index. -/
theorem whole_apply (X : (⟨2, ![8192, 8192]⟩ : Shape).Idx → Elt Ideal .f32) (W : (⟨2, ![8192, 4096]⟩ : Shape).Idx → Elt Ideal .bf16)
    (r : Fin 8192) (l : Fin 4096) :
    whole X W (ix2 r l) = max (∑ k : Fin 8192, X (ix2 r k) * W (ix2 k l)) (Ideal.ofBits .f32 0x00000000#32) := by
  unfold whole
  rw [maximumf_apply]
  exact congrArg₂ max (dotGeneral_plain_apply (m := 8192) (k := 8192) (n := 4096) none X (extf .f32 W Cert.ReferenceIdeal.Gen.bitsLt_bf16_f32) r l) rfl

/-- Each device's result is its block of columns of the reference's. -/
theorem result_block (X : (⟨2, ![8192, 8192]⟩ : Shape).Idx → Elt Ideal .f32) (W : (⟨2, ![8192, 4096]⟩ : Shape).Idx → Elt Ideal .bf16)
    (hX : ∀ c : Dev nD, m (xLoc c) = Layout.block ⟨2, ![2048, 8192]⟩ ⟨2, ![8192, 8192]⟩ 0 4 c X)
    (hW : ∀ c : Dev nD, wBlock m c = Layout.block ⟨2, ![8192, 1024]⟩ ⟨2, ![8192, 4096]⟩ 1 4 c W) (c : Dev nD) :
    result m c = Layout.block ⟨2, ![8192, 1024]⟩ ⟨2, ![8192, 4096]⟩ 1 4 c (whole X W) := by
  funext i
  obtain ⟨r, l, rfl⟩ : ∃ (r : Fin 8192) (l : Fin 1024), i = ix2 r l := ⟨i 0, i 1, eq_ix2 i⟩
  have hi : ∀ (h : Layout.Tiles ⟨2, ![8192, 1024]⟩ ⟨2, ![8192, 4096]⟩ 1 4) (k : Fin 8192),
      h.idx c (ix2 k l) = ix2 k (⟨c.val * 1024 + l.val, by have := c.isLt; have := l.isLt; simp only [nD] at *; omega⟩ : Fin 4096) := by
    intro h k; funext d; apply Fin.ext
    match d with
    | ⟨0, _⟩ => rfl
    | ⟨1, _⟩ => rfl
  have hw : ∀ k : Fin 8192, wBlock m c (ix2 k l) = W (ix2 k (⟨c.val * 1024 + l.val, by have := c.isLt; have := l.isLt; simp only [nD] at *; omega⟩ : Fin 4096)) := by
    intro k
    rw [hW c, Layout.block_apply, hi]
  rw [Layout.block_apply, hi, whole_apply, result_apply]
  simp only [hw, gathered_whole m X hX]

end Cert.GatherMatmul

end
-- ==== Proof.lean ====
/-
# Every claim

`Run` proves the run of the kernel on the mesh at any float values: it ends with every semaphore at zero, the arguments
as they were, and each device's result computed. `Value` proves that result, at the ideal values, the device's block of
the reference's. The printed kernel and its ideal reading are one text, so one run serves both.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent

@[expose] public section

noncomputable section

namespace Cert.Proof

open Idealize.ShloMosaic Idealize.ShloMosaic.TcCoe Idealize.SL.Sem Cert.GatherMatmul

/-- The printed kernel's body table and its ideal reading's are one table. -/
theorem bodies_eq {F : FTy → Type} [FloatOps F] : Cert.Kernel.defs₀ (F := F) = Cert.KernelIdeal.defs₀ (F := F) := by
  refine congrArg (Defs.onTc (nD := Cert.Kernel.nD) (τ := Cert.Kernel.τ) (sig := Cert.Kernel.sig) (Λ := Cert.Kernel.Λ₀)) ?_
  funext ℓ x
  match ℓ, x with
  | 0, (t, s) => rfl
  | ⟨_ + 1, h⟩, _ => exact absurd h (Nat.not_lt.2 (Nat.le_add_left _ _))

/-- So are the two tables with the pipeline's own entries. -/
theorem tables_eq {F : FTy → Type} [FloatOps F] : Cert.Kernel.defs (F := F) = Cert.KernelIdeal.defs (F := F) :=
  congrArg (Pipeline.defs (Cert.Kernel.pcfgs (F := F))) bodies_eq

/-- The kernel, at the machine's floats, ends with its arguments as they were and every semaphore at zero. -/
theorem frame_kernel : Cert.quiescent_Kernel := fun m ρ _ => by
  have h := (θ_run (Cert.KernelIdeal.defs (F := Bits)) _ _).mono
    (Q' := fun r => (∀ c : Dev Cert.KernelIdeal.nD,
      r.2.mem (xLoc c) = m (xLoc c) ∧ r.2.mem ((c : Thread Cert.KernelIdeal.nD Cert.KernelIdeal.τ).loc Cert.KernelIdeal.main_arg1) = m ((c : Thread Cert.KernelIdeal.nD Cert.KernelIdeal.τ).loc Cert.KernelIdeal.main_arg1)) ∧ r.2.sem = fun _ => 0)
    (fun _ h => ⟨fun c => ⟨(h.1 c).1, (h.1 c).2.1⟩, h.2⟩) (run_main (F := Bits) m ρ)
  rw [tables_eq]
  exact h

/-- The kernel, at the ideal values, ends with its arguments as they were and every semaphore at zero. -/
theorem frame_ideal : Cert.quiescent_KernelIdeal := fun m ρ _ =>
  (θ_run (Cert.KernelIdeal.defs (F := Ideal)) _ _).mono
    (fun _ h => ⟨fun c => ⟨(h.1 c).1, (h.1 c).2.1⟩, h.2⟩) (run_main (F := Ideal) m ρ)

/-- The reference ends with its arguments as they were; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- At the ideal values, on arrays of which the devices hold blocks, the kernel's results are the blocks of the
    reference's result. -/
theorem algebraic : Cert.algebraic_KernelIdeal_ReferenceIdeal := fun m ρ m' ρ' _ hm =>
  ⟨whole _ _,
    (θ_run (Cert.KernelIdeal.defs (F := Ideal)) _ _).mono
      (fun _ h c => ⟨(h.1 c).2.2.trans (result_block m _ _ (fun c => (hm c).1) (fun c => (hm c).2) c), (h.1 c).1, (h.1 c).2.1⟩)
      (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
